-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelDe (m : (ℓ : Loc Cert.KernelDe.nD Cert.KernelDe.τ Cert.KernelDe.sig) → Buf (Elt Bits) ℓ) : Prop :=
  True

def Pre_KernelDeIdeal (m : (ℓ : Loc Cert.KernelDeIdeal.nD Cert.KernelDeIdeal.τ Cert.KernelDeIdeal.sig) → Buf (Elt Ideal) ℓ) : Prop :=
  True

def Pre_ReferenceDeIdeal (m : (ℓ : Loc Cert.ReferenceDeIdeal.nD Cert.ReferenceDeIdeal.τ Cert.ReferenceDeIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDe [hKernelDe : Cert.KernelDe.Facts] : Prop :=
  ∀ (m : (ℓ : Loc Cert.KernelDe.nD Cert.KernelDe.τ Cert.KernelDe.sig) → Buf (Elt Bits) ℓ) (g : Dev Cert.KernelDe.nD → PrngReg), Pre_KernelDe m →
    θ_run (Cert.KernelDe.defs (F := Bits)) (onTc (τ := Cert.KernelDe.τ) (Cert.KernelDe.main (F := Bits))) ⟨m, fun _ => 0, g⟩ (fun r => (∀ c : Dev Cert.KernelDe.nD,
      r.2.mem ((c.tc : Thread Cert.KernelDe.nD Cert.KernelDe.τ).loc Cert.KernelDe.main_arg0) = m ((c.tc : Thread Cert.KernelDe.nD Cert.KernelDe.τ).loc Cert.KernelDe.main_arg0)
      ∧ r.2.mem ((c.tc : Thread Cert.KernelDe.nD Cert.KernelDe.τ).loc Cert.KernelDe.main_arg1) = m ((c.tc : Thread Cert.KernelDe.nD Cert.KernelDe.τ).loc Cert.KernelDe.main_arg1)
      ∧ r.2.mem ((c.tc : Thread Cert.KernelDe.nD Cert.KernelDe.τ).loc Cert.KernelDe.main_arg2) = m ((c.tc : Thread Cert.KernelDe.nD Cert.KernelDe.τ).loc Cert.KernelDe.main_arg2)
      ∧ r.2.mem ((c.tc : Thread Cert.KernelDe.nD Cert.KernelDe.τ).loc Cert.KernelDe.main_arg3) = m ((c.tc : Thread Cert.KernelDe.nD Cert.KernelDe.τ).loc Cert.KernelDe.main_arg3)
      ∧ r.2.mem ((c.tc : Thread Cert.KernelDe.nD Cert.KernelDe.τ).loc Cert.KernelDe.main_arg4) = m ((c.tc : Thread Cert.KernelDe.nD Cert.KernelDe.τ).loc Cert.KernelDe.main_arg4)
      ∧ r.2.mem ((c.tc : Thread Cert.KernelDe.nD Cert.KernelDe.τ).loc Cert.KernelDe.main_arg5) = m ((c.tc : Thread Cert.KernelDe.nD Cert.KernelDe.τ).loc Cert.KernelDe.main_arg5)
      ∧ r.2.mem ((c.tc : Thread Cert.KernelDe.nD Cert.KernelDe.τ).loc Cert.KernelDe.main_arg6) = m ((c.tc : Thread Cert.KernelDe.nD Cert.KernelDe.τ).loc Cert.KernelDe.main_arg6))
      ∧ r.2.sem = fun _ => 0)

def quiescent_KernelDeIdeal [hKernelDeIdeal : Cert.KernelDeIdeal.Facts] : Prop :=
  ∀ (m : (ℓ : Loc Cert.KernelDeIdeal.nD Cert.KernelDeIdeal.τ Cert.KernelDeIdeal.sig) → Buf (Elt Ideal) ℓ) (g : Dev Cert.KernelDeIdeal.nD → PrngReg), Pre_KernelDeIdeal m →
    θ_run (Cert.KernelDeIdeal.defs (F := Ideal)) (onTc (τ := Cert.KernelDeIdeal.τ) (Cert.KernelDeIdeal.main (F := Ideal))) ⟨m, fun _ => 0, g⟩ (fun r => (∀ c : Dev Cert.KernelDeIdeal.nD,
      r.2.mem ((c.tc : Thread Cert.KernelDeIdeal.nD Cert.KernelDeIdeal.τ).loc Cert.KernelDeIdeal.main_arg0) = m ((c.tc : Thread Cert.KernelDeIdeal.nD Cert.KernelDeIdeal.τ).loc Cert.KernelDeIdeal.main_arg0)
      ∧ r.2.mem ((c.tc : Thread Cert.KernelDeIdeal.nD Cert.KernelDeIdeal.τ).loc Cert.KernelDeIdeal.main_arg1) = m ((c.tc : Thread Cert.KernelDeIdeal.nD Cert.KernelDeIdeal.τ).loc Cert.KernelDeIdeal.main_arg1)
      ∧ r.2.mem ((c.tc : Thread Cert.KernelDeIdeal.nD Cert.KernelDeIdeal.τ).loc Cert.KernelDeIdeal.main_arg2) = m ((c.tc : Thread Cert.KernelDeIdeal.nD Cert.KernelDeIdeal.τ).loc Cert.KernelDeIdeal.main_arg2)
      ∧ r.2.mem ((c.tc : Thread Cert.KernelDeIdeal.nD Cert.KernelDeIdeal.τ).loc Cert.KernelDeIdeal.main_arg3) = m ((c.tc : Thread Cert.KernelDeIdeal.nD Cert.KernelDeIdeal.τ).loc Cert.KernelDeIdeal.main_arg3)
      ∧ r.2.mem ((c.tc : Thread Cert.KernelDeIdeal.nD Cert.KernelDeIdeal.τ).loc Cert.KernelDeIdeal.main_arg4) = m ((c.tc : Thread Cert.KernelDeIdeal.nD Cert.KernelDeIdeal.τ).loc Cert.KernelDeIdeal.main_arg4)
      ∧ r.2.mem ((c.tc : Thread Cert.KernelDeIdeal.nD Cert.KernelDeIdeal.τ).loc Cert.KernelDeIdeal.main_arg5) = m ((c.tc : Thread Cert.KernelDeIdeal.nD Cert.KernelDeIdeal.τ).loc Cert.KernelDeIdeal.main_arg5)
      ∧ r.2.mem ((c.tc : Thread Cert.KernelDeIdeal.nD Cert.KernelDeIdeal.τ).loc Cert.KernelDeIdeal.main_arg6) = m ((c.tc : Thread Cert.KernelDeIdeal.nD Cert.KernelDeIdeal.τ).loc Cert.KernelDeIdeal.main_arg6))
      ∧ r.2.sem = fun _ => 0)

def quiescent_ReferenceDeIdeal [hReferenceDeIdeal : Cert.ReferenceDeIdeal.Facts] : Prop :=
  ∀ (m : (ℓ : Loc Cert.ReferenceDeIdeal.nD Cert.ReferenceDeIdeal.τ Cert.ReferenceDeIdeal.sig) → Buf (Elt Ideal) ℓ) (g : Dev Cert.ReferenceDeIdeal.nD → PrngReg), Pre_ReferenceDeIdeal m →
    θ_run (Cert.ReferenceDeIdeal.defs (F := Ideal)) (onTc (τ := Cert.ReferenceDeIdeal.τ) (Cert.ReferenceDeIdeal.main (F := Ideal))) ⟨m, fun _ => 0, g⟩ (fun r => (∀ c : Dev Cert.ReferenceDeIdeal.nD,
      r.2.mem ((c.tc : Thread Cert.ReferenceDeIdeal.nD Cert.ReferenceDeIdeal.τ).loc Cert.ReferenceDeIdeal.main_arg0) = m ((c.tc : Thread Cert.ReferenceDeIdeal.nD Cert.ReferenceDeIdeal.τ).loc Cert.ReferenceDeIdeal.main_arg0)
      ∧ r.2.mem ((c.tc : Thread Cert.ReferenceDeIdeal.nD Cert.ReferenceDeIdeal.τ).loc Cert.ReferenceDeIdeal.main_arg1) = m ((c.tc : Thread Cert.ReferenceDeIdeal.nD Cert.ReferenceDeIdeal.τ).loc Cert.ReferenceDeIdeal.main_arg1)
      ∧ r.2.mem ((c.tc : Thread Cert.ReferenceDeIdeal.nD Cert.ReferenceDeIdeal.τ).loc Cert.ReferenceDeIdeal.main_arg2) = m ((c.tc : Thread Cert.ReferenceDeIdeal.nD Cert.ReferenceDeIdeal.τ).loc Cert.ReferenceDeIdeal.main_arg2)
      ∧ r.2.mem ((c.tc : Thread Cert.ReferenceDeIdeal.nD Cert.ReferenceDeIdeal.τ).loc Cert.ReferenceDeIdeal.main_arg3) = m ((c.tc : Thread Cert.ReferenceDeIdeal.nD Cert.ReferenceDeIdeal.τ).loc Cert.ReferenceDeIdeal.main_arg3)
      ∧ r.2.mem ((c.tc : Thread Cert.ReferenceDeIdeal.nD Cert.ReferenceDeIdeal.τ).loc Cert.ReferenceDeIdeal.main_arg4) = m ((c.tc : Thread Cert.ReferenceDeIdeal.nD Cert.ReferenceDeIdeal.τ).loc Cert.ReferenceDeIdeal.main_arg4)
      ∧ r.2.mem ((c.tc : Thread Cert.ReferenceDeIdeal.nD Cert.ReferenceDeIdeal.τ).loc Cert.ReferenceDeIdeal.main_arg5) = m ((c.tc : Thread Cert.ReferenceDeIdeal.nD Cert.ReferenceDeIdeal.τ).loc Cert.ReferenceDeIdeal.main_arg5)
      ∧ r.2.mem ((c.tc : Thread Cert.ReferenceDeIdeal.nD Cert.ReferenceDeIdeal.τ).loc Cert.ReferenceDeIdeal.main_arg6) = m ((c.tc : Thread Cert.ReferenceDeIdeal.nD Cert.ReferenceDeIdeal.τ).loc Cert.ReferenceDeIdeal.main_arg6))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDe_KernelDeIdeal : Prop :=
  True

def algebraic_KernelDeIdeal_ReferenceDeIdeal [hKernelDeIdeal : Cert.KernelDeIdeal.Facts] [hReferenceDeIdeal : Cert.ReferenceDeIdeal.Facts] : Prop :=
  ∀ (m : (ℓ : Loc Cert.KernelDeIdeal.nD Cert.KernelDeIdeal.τ Cert.KernelDeIdeal.sig) → Buf (Elt Ideal) ℓ) (g : Dev Cert.KernelDeIdeal.nD → PrngReg)
    (m' : (ℓ : Loc Cert.ReferenceDeIdeal.nD Cert.ReferenceDeIdeal.τ Cert.ReferenceDeIdeal.sig) → Buf (Elt Ideal) ℓ) (g' : Dev Cert.ReferenceDeIdeal.nD → PrngReg), Pre_KernelDeIdeal m →
    (∀ c : Dev Cert.KernelDeIdeal.nD,
      m' ((c.tc : Thread Cert.ReferenceDeIdeal.nD Cert.ReferenceDeIdeal.τ).loc Cert.ReferenceDeIdeal.main_arg0) = m ((c.tc : Thread Cert.KernelDeIdeal.nD Cert.KernelDeIdeal.τ).loc Cert.KernelDeIdeal.main_arg0)
      ∧ m' ((c.tc : Thread Cert.ReferenceDeIdeal.nD Cert.ReferenceDeIdeal.τ).loc Cert.ReferenceDeIdeal.main_arg1) = m ((c.tc : Thread Cert.KernelDeIdeal.nD Cert.KernelDeIdeal.τ).loc Cert.KernelDeIdeal.main_arg1)
      ∧ m' ((c.tc : Thread Cert.ReferenceDeIdeal.nD Cert.ReferenceDeIdeal.τ).loc Cert.ReferenceDeIdeal.main_arg2) = m ((c.tc : Thread Cert.KernelDeIdeal.nD Cert.KernelDeIdeal.τ).loc Cert.KernelDeIdeal.main_arg2)
      ∧ m' ((c.tc : Thread Cert.ReferenceDeIdeal.nD Cert.ReferenceDeIdeal.τ).loc Cert.ReferenceDeIdeal.main_arg3) = m ((c.tc : Thread Cert.KernelDeIdeal.nD Cert.KernelDeIdeal.τ).loc Cert.KernelDeIdeal.main_arg3)
      ∧ m' ((c.tc : Thread Cert.ReferenceDeIdeal.nD Cert.ReferenceDeIdeal.τ).loc Cert.ReferenceDeIdeal.main_arg4) = m ((c.tc : Thread Cert.KernelDeIdeal.nD Cert.KernelDeIdeal.τ).loc Cert.KernelDeIdeal.main_arg4)
      ∧ m' ((c.tc : Thread Cert.ReferenceDeIdeal.nD Cert.ReferenceDeIdeal.τ).loc Cert.ReferenceDeIdeal.main_arg5) = m ((c.tc : Thread Cert.KernelDeIdeal.nD Cert.KernelDeIdeal.τ).loc Cert.KernelDeIdeal.main_arg5)
      ∧ m' ((c.tc : Thread Cert.ReferenceDeIdeal.nD Cert.ReferenceDeIdeal.τ).loc Cert.ReferenceDeIdeal.main_arg6) = m ((c.tc : Thread Cert.KernelDeIdeal.nD Cert.KernelDeIdeal.τ).loc Cert.KernelDeIdeal.main_arg6)) →
    ∃ (v0 : (c : Dev Cert.KernelDeIdeal.nD) → Buf (Elt Ideal) ((c.tc : Thread Cert.KernelDeIdeal.nD Cert.KernelDeIdeal.τ).loc Cert.KernelDeIdeal.main_v3_0)) (v1 : (c : Dev Cert.KernelDeIdeal.nD) → Buf (Elt Ideal) ((c.tc : Thread Cert.KernelDeIdeal.nD Cert.KernelDeIdeal.τ).loc Cert.KernelDeIdeal.main_v3_1)),
      θ_run (Cert.KernelDeIdeal.defs (F := Ideal)) (onTc (τ := Cert.KernelDeIdeal.τ) (Cert.KernelDeIdeal.main (F := Ideal))) ⟨m, fun _ => 0, g⟩ (fun r => ∀ c : Dev Cert.KernelDeIdeal.nD,
          r.2.mem ((c.tc : Thread Cert.KernelDeIdeal.nD Cert.KernelDeIdeal.τ).loc Cert.KernelDeIdeal.main_v3_0) = v0 c
          ∧ r.2.mem ((c.tc : Thread Cert.KernelDeIdeal.nD Cert.KernelDeIdeal.τ).loc Cert.KernelDeIdeal.main_v3_1) = v1 c
          ∧ r.2.mem ((c.tc : Thread Cert.KernelDeIdeal.nD Cert.KernelDeIdeal.τ).loc Cert.KernelDeIdeal.main_arg0) = m ((c.tc : Thread Cert.KernelDeIdeal.nD Cert.KernelDeIdeal.τ).loc Cert.KernelDeIdeal.main_arg0)
          ∧ r.2.mem ((c.tc : Thread Cert.KernelDeIdeal.nD Cert.KernelDeIdeal.τ).loc Cert.KernelDeIdeal.main_arg1) = m ((c.tc : Thread Cert.KernelDeIdeal.nD Cert.KernelDeIdeal.τ).loc Cert.KernelDeIdeal.main_arg1)
          ∧ r.2.mem ((c.tc : Thread Cert.KernelDeIdeal.nD Cert.KernelDeIdeal.τ).loc Cert.KernelDeIdeal.main_arg2) = m ((c.tc : Thread Cert.KernelDeIdeal.nD Cert.KernelDeIdeal.τ).loc Cert.KernelDeIdeal.main_arg2)
          ∧ r.2.mem ((c.tc : Thread Cert.KernelDeIdeal.nD Cert.KernelDeIdeal.τ).loc Cert.KernelDeIdeal.main_arg3) = m ((c.tc : Thread Cert.KernelDeIdeal.nD Cert.KernelDeIdeal.τ).loc Cert.KernelDeIdeal.main_arg3)
          ∧ r.2.mem ((c.tc : Thread Cert.KernelDeIdeal.nD Cert.KernelDeIdeal.τ).loc Cert.KernelDeIdeal.main_arg4) = m ((c.tc : Thread Cert.KernelDeIdeal.nD Cert.KernelDeIdeal.τ).loc Cert.KernelDeIdeal.main_arg4)
          ∧ r.2.mem ((c.tc : Thread Cert.KernelDeIdeal.nD Cert.KernelDeIdeal.τ).loc Cert.KernelDeIdeal.main_arg5) = m ((c.tc : Thread Cert.KernelDeIdeal.nD Cert.KernelDeIdeal.τ).loc Cert.KernelDeIdeal.main_arg5)
          ∧ r.2.mem ((c.tc : Thread Cert.KernelDeIdeal.nD Cert.KernelDeIdeal.τ).loc Cert.KernelDeIdeal.main_arg6) = m ((c.tc : Thread Cert.KernelDeIdeal.nD Cert.KernelDeIdeal.τ).loc Cert.KernelDeIdeal.main_arg6))
      ∧ θ_run (Cert.ReferenceDeIdeal.defs (F := Ideal)) (onTc (τ := Cert.ReferenceDeIdeal.τ) (Cert.ReferenceDeIdeal.main (F := Ideal))) ⟨m', fun _ => 0, g'⟩ (fun r => ∀ c : Dev Cert.ReferenceDeIdeal.nD,
          r.2.mem ((c.tc : Thread Cert.ReferenceDeIdeal.nD Cert.ReferenceDeIdeal.τ).loc Cert.ReferenceDeIdeal.main_v0_0) = v0 c
          ∧ r.2.mem ((c.tc : Thread Cert.ReferenceDeIdeal.nD Cert.ReferenceDeIdeal.τ).loc Cert.ReferenceDeIdeal.main_v0_1) = v1 c
          ∧ r.2.mem ((c.tc : Thread Cert.ReferenceDeIdeal.nD Cert.ReferenceDeIdeal.τ).loc Cert.ReferenceDeIdeal.main_arg0) = m' ((c.tc : Thread Cert.ReferenceDeIdeal.nD Cert.ReferenceDeIdeal.τ).loc Cert.ReferenceDeIdeal.main_arg0)
          ∧ r.2.mem ((c.tc : Thread Cert.ReferenceDeIdeal.nD Cert.ReferenceDeIdeal.τ).loc Cert.ReferenceDeIdeal.main_arg1) = m' ((c.tc : Thread Cert.ReferenceDeIdeal.nD Cert.ReferenceDeIdeal.τ).loc Cert.ReferenceDeIdeal.main_arg1)
          ∧ r.2.mem ((c.tc : Thread Cert.ReferenceDeIdeal.nD Cert.ReferenceDeIdeal.τ).loc Cert.ReferenceDeIdeal.main_arg2) = m' ((c.tc : Thread Cert.ReferenceDeIdeal.nD Cert.ReferenceDeIdeal.τ).loc Cert.ReferenceDeIdeal.main_arg2)
          ∧ r.2.mem ((c.tc : Thread Cert.ReferenceDeIdeal.nD Cert.ReferenceDeIdeal.τ).loc Cert.ReferenceDeIdeal.main_arg3) = m' ((c.tc : Thread Cert.ReferenceDeIdeal.nD Cert.ReferenceDeIdeal.τ).loc Cert.ReferenceDeIdeal.main_arg3)
          ∧ r.2.mem ((c.tc : Thread Cert.ReferenceDeIdeal.nD Cert.ReferenceDeIdeal.τ).loc Cert.ReferenceDeIdeal.main_arg4) = m' ((c.tc : Thread Cert.ReferenceDeIdeal.nD Cert.ReferenceDeIdeal.τ).loc Cert.ReferenceDeIdeal.main_arg4)
          ∧ r.2.mem ((c.tc : Thread Cert.ReferenceDeIdeal.nD Cert.ReferenceDeIdeal.τ).loc Cert.ReferenceDeIdeal.main_arg5) = m' ((c.tc : Thread Cert.ReferenceDeIdeal.nD Cert.ReferenceDeIdeal.τ).loc Cert.ReferenceDeIdeal.main_arg5)
          ∧ r.2.mem ((c.tc : Thread Cert.ReferenceDeIdeal.nD Cert.ReferenceDeIdeal.τ).loc Cert.ReferenceDeIdeal.main_arg6) = m' ((c.tc : Thread Cert.ReferenceDeIdeal.nD Cert.ReferenceDeIdeal.τ).loc Cert.ReferenceDeIdeal.main_arg6))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)) →
    ∃ (v0 : (c : Dev Cert.KernelPrepIdeal.nD) → Buf (Elt Ideal) ((c.tc : Thread Cert.KernelPrepIdeal.nD Cert.KernelPrepIdeal.τ).loc Cert.KernelPrepIdeal.main_v2)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v2) = v0 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v0) = v0 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1))

def Claim : Prop :=
  ∃ (hKernel : Cert.Kernel.Facts) (hKernelIdeal : Cert.KernelIdeal.Facts) (hReferenceIdeal : Cert.ReferenceIdeal.Facts) (hKernelDe : Cert.KernelDe.Facts) (hKernelDeIdeal : Cert.KernelDeIdeal.Facts) (hReferenceDeIdeal : Cert.ReferenceDeIdeal.Facts) (hKernelPrep : Cert.KernelPrep.Facts) (hKernelPrepIdeal : Cert.KernelPrepIdeal.Facts) (hReferencePrepIdeal : Cert.ReferencePrepIdeal.Facts),
    quiescent_Kernel (hKernel := hKernel)
    ∧ quiescent_KernelIdeal (hKernelIdeal := hKernelIdeal)
    ∧ quiescent_ReferenceIdeal (hReferenceIdeal := hReferenceIdeal)
    ∧ quiescent_KernelDe (hKernelDe := hKernelDe)
    ∧ quiescent_KernelDeIdeal (hKernelDeIdeal := hKernelDeIdeal)
    ∧ quiescent_ReferenceDeIdeal (hReferenceDeIdeal := hReferenceDeIdeal)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ preserves_Kernel_KernelIdeal
    ∧ algebraic_KernelIdeal_ReferenceIdeal (hKernelIdeal := hKernelIdeal) (hReferenceIdeal := hReferenceIdeal)
    ∧ preserves_KernelDe_KernelDeIdeal
    ∧ algebraic_KernelDeIdeal_ReferenceDeIdeal (hKernelDeIdeal := hKernelDeIdeal) (hReferenceDeIdeal := hReferenceDeIdeal)
    ∧ preserves_KernelPrep_KernelPrepIdeal
    ∧ algebraic_KernelPrepIdeal_ReferencePrepIdeal (hKernelPrepIdeal := hKernelPrepIdeal) (hReferencePrepIdeal := hReferencePrepIdeal)
-- ==== Kernel.lean ====
abbrev S4x2048x32768 : Shape := ⟨3, ![4, 2048, 32768]⟩
abbrev S4x2048x256 : Shape := ⟨3, ![4, 2048, 256]⟩
abbrev S32768x1536 : Shape := ⟨2, ![32768, 1536]⟩
abbrev S32768 : Shape := ⟨1, ![32768]⟩
abbrev S8192x32768 : Shape := ⟨2, ![8192, 32768]⟩
abbrev S8192x256 : Shape := ⟨2, ![8192, 256]⟩
abbrev S16x1x2048 : Shape := ⟨3, ![16, 1, 2048]⟩
abbrev S8192x1536 : Shape := ⟨2, ![8192, 1536]⟩
abbrev S1024x2048 : Shape := ⟨2, ![1024, 2048]⟩
abbrev S1024x256 : Shape := ⟨2, ![1024, 256]⟩
abbrev S2048x512 : Shape := ⟨2, ![2048, 512]⟩
abbrev S1x1x2048 : Shape := ⟨3, ![1, 1, 2048]⟩
abbrev S1024x512 : Shape := ⟨2, ![1024, 512]⟩
abbrev S1024x128 : Shape := ⟨2, ![1024, 128]⟩
abbrev S1024x128x1 : Shape := ⟨3, ![1024, 128, 1]⟩
abbrev S1x1x128 : Shape := ⟨3, ![1, 1, 128]⟩
abbrev S1x128 : Shape := ⟨2, ![1, 128]⟩
abbrev S128x128 : Shape := ⟨2, ![128, 128]⟩
abbrev S128x512 : Shape := ⟨2, ![128, 512]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x32768, .fp8e5m2⟩
  | .hbm, ⟨1, _⟩ => ⟨S4x2048x256, .f32⟩
  | .hbm, ⟨2, _⟩ => ⟨S32768x1536, .i8⟩
  | .hbm, ⟨3, _⟩ => ⟨S32768, .f32⟩
  | .hbm, ⟨4, _⟩ => ⟨S8192x32768, .fp8e5m2⟩
  | .hbm, ⟨5, _⟩ => ⟨S8192x256, .f32⟩
  | .hbm, ⟨6, _⟩ => ⟨S16x1x2048, .f32⟩
  | .hbm, ⟨7, _⟩ => ⟨S8192x1536, .bf16⟩
  | .local _ .vmem, ⟨0, _⟩ => ⟨S1024x2048, .fp8e5m2⟩
  | .local _ .vmem, ⟨1, _⟩ => ⟨S1024x2048, .fp8e5m2⟩
  | .local _ .vmem, ⟨2, _⟩ => ⟨S1024x256, .f32⟩
  | .local _ .vmem, ⟨3, _⟩ => ⟨S1024x256, .f32⟩
  | .local _ .vmem, ⟨4, _⟩ => ⟨S2048x512, .i8⟩
  | .local _ .vmem, ⟨5, _⟩ => ⟨S2048x512, .i8⟩
  | .local _ .vmem, ⟨6, _⟩ => ⟨S1x1x2048, .f32⟩
  | .local _ .vmem, ⟨7, _⟩ => ⟨S1x1x2048, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | _, _ => ⟨S4x2048x32768, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 16], ![false, false, false]⟩

def k0_mult1 (i : grid0.Coords) : BitVec 32 :=
  let arg2 : BitVec 32 := BitVec.ofNat 32 (i 2).val
  let c16_i32_5 : BitVec 32 := 16#32
  let v14 : BitVec 32 := Scalar.muli arg2 c16_i32_5
  let c0_i32_7 : BitVec 32 := 0#32
  let v16 : BitVec 1 := Scalar.cmpi .sgt v14 c0_i32_7
  let v17 : BitVec 32 := Scalar.extui v16
  let c0_i32_8 : BitVec 32 := 0#32
  let v18 : BitVec 1 := Scalar.cmpi .slt v14 c0_i32_8
  let v19 : BitVec 32 := Scalar.extui v18
  let v20 : BitVec 32 := Scalar.subi v17 v19
  let c128_i32_6 : BitVec 32 := 128#32
  let c0_i32_9 : BitVec 32 := 0#32
  let v21 : BitVec 1 := Scalar.cmpi .sgt c128_i32_6 c0_i32_9
  let v22 : BitVec 32 := Scalar.extui v21
  let c0_i32_10 : BitVec 32 := 0#32
  let v23 : BitVec 1 := Scalar.cmpi .slt c128_i32_6 c0_i32_10
  let v24 : BitVec 32 := Scalar.extui v23
  let v25 : BitVec 32 := Scalar.subi v22 v24
  let v26 : BitVec 1 := Scalar.cmpi .ne v20 v25
  let v27 : BitVec 32 := Scalar.remsi v14 c128_i32_6
  let c0_i32_11 : BitVec 32 := 0#32
  let v28 : BitVec 1 := Scalar.cmpi .ne v27 c0_i32_11
  let v29 : BitVec 1 := Scalar.andi v26 v28
  let v15 : BitVec 32 := Scalar.divsi v14 c128_i32_6
  let c1_i32_12 : BitVec 32 := 1#32
  let v30 : BitVec 32 := Scalar.subi v15 c1_i32_12
  let v31 : BitVec 32 := Scalar.select v29 v30 v15
  let c128_i32_13 : BitVec 32 := 128#32
  let v32 : BitVec 32 := Scalar.muli v31 c128_i32_13
  v32
def k0_off1 (i : grid0.Coords) : Fin 2 → Nat :=
  let c0 : Index := 0#32
  let arg2 : BitVec 32 := BitVec.ofNat 32 (i 2).val
  let c16_i32_5 : BitVec 32 := 16#32
  let v14 : BitVec 32 := Scalar.muli arg2 c16_i32_5
  let c0_i32_7 : BitVec 32 := 0#32
  let v16 : BitVec 1 := Scalar.cmpi .sgt v14 c0_i32_7
  let v17 : BitVec 32 := Scalar.extui v16
  let c0_i32_8 : BitVec 32 := 0#32
  let v18 : BitVec 1 := Scalar.cmpi .slt v14 c0_i32_8
  let v19 : BitVec 32 := Scalar.extui v18
  let v20 : BitVec 32 := Scalar.subi v17 v19
  let c128_i32_6 : BitVec 32 := 128#32
  let c0_i32_9 : BitVec 32 := 0#32
  let v21 : BitVec 1 := Scalar.cmpi .sgt c128_i32_6 c0_i32_9
  let v22 : BitVec 32 := Scalar.extui v21
  let c0_i32_10 : BitVec 32 := 0#32
  let v23 : BitVec 1 := Scalar.cmpi .slt c128_i32_6 c0_i32_10
  let v24 : BitVec 32 := Scalar.extui v23
  let v25 : BitVec 32 := Scalar.subi v22 v24
  let v26 : BitVec 1 := Scalar.cmpi .ne v20 v25
  let v27 : BitVec 32 := Scalar.remsi v14 c128_i32_6
  let c0_i32_11 : BitVec 32 := 0#32
  let v28 : BitVec 1 := Scalar.cmpi .ne v27 c0_i32_11
  let v29 : BitVec 1 := Scalar.andi v26 v28
  let v15 : BitVec 32 := Scalar.divsi v14 c128_i32_6
  let c1_i32_12 : BitVec 32 := 1#32
  let v30 : BitVec 32 := Scalar.subi v15 c1_i32_12
  let v31 : BitVec 32 := Scalar.select v29 v30 v15
  let c128_i32_13 : BitVec 32 := 128#32
  let v32 : BitVec 32 := Scalar.muli v31 c128_i32_13
  let v33 : BitVec 32 := v32
  let v34 : Index := Scalar.indexCast v33
  ![0, v34.toNat]
def k0_cond2 (i : grid0.Coords) : BitVec 1 :=
  let arg2 : BitVec 32 := BitVec.ofNat 32 (i 2).val
  let c15_i32_149 : BitVec 32 := 15#32
  let v445 : BitVec 1 := Scalar.cmpi .eq arg2 c15_i32_149
  let v446 : BitVec 32 := Scalar.extui v445
  let c0_i32_150 : BitVec 32 := 0#32
  let v447 : BitVec 1 := Scalar.cmpi .ne v446 c0_i32_150
  v447

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S4x2048x32768 : Shape := ⟨3, ![4, 2048, 32768]⟩
abbrev S4x2048x256 : Shape := ⟨3, ![4, 2048, 256]⟩
abbrev S32768x1536 : Shape := ⟨2, ![32768, 1536]⟩
abbrev S32768 : Shape := ⟨1, ![32768]⟩
abbrev S8192x1536 : Shape := ⟨2, ![8192, 1536]⟩
abbrev S4x2048x256x128 : Shape := ⟨4, ![4, 2048, 256, 128]⟩
abbrev S4x2048x256x1 : Shape := ⟨4, ![4, 2048, 256, 1]⟩
abbrev S32768x1 : Shape := ⟨2, ![32768, 1]⟩
abbrev S4x2048x1536 : Shape := ⟨3, ![4, 2048, 1536]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x32768, .fp8e5m2⟩
  | .hbm, ⟨1, _⟩ => ⟨S4x2048x256, .f32⟩
  | .hbm, ⟨2, _⟩ => ⟨S32768x1536, .i8⟩
  | .hbm, ⟨3, _⟩ => ⟨S32768, .f32⟩
  | .hbm, ⟨4, _⟩ => ⟨S8192x1536, .bf16⟩
  | .local _ .vmem, ⟨0, _⟩ => ⟨S4x2048x32768, .fp8e5m2⟩
  | .local _ .vmem, ⟨1, _⟩ => ⟨S4x2048x256, .f32⟩
  | .local _ .vmem, ⟨2, _⟩ => ⟨S32768x1536, .i8⟩
  | .local _ .vmem, ⟨3, _⟩ => ⟨S32768, .f32⟩
  | .local _ .vmem, ⟨4, _⟩ => ⟨S8192x1536, .bf16⟩
  | _, _ => ⟨S4x2048x32768, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x2048x32768 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1536 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDe.lean ====
abbrev S4x2048x32768 : Shape := ⟨3, ![4, 2048, 32768]⟩
abbrev S4x2048x256 : Shape := ⟨3, ![4, 2048, 256]⟩
abbrev S1536x8192 : Shape := ⟨2, ![1536, 8192]⟩
abbrev S32768x1536 : Shape := ⟨2, ![32768, 1536]⟩
abbrev S32768 : Shape := ⟨1, ![32768]⟩
abbrev S12x32768x128 : Shape := ⟨3, ![12, 32768, 128]⟩
abbrev S1 : Shape := ⟨1, ![1]⟩
abbrev S8192x32768 : Shape := ⟨2, ![8192, 32768]⟩
abbrev S8192x256 : Shape := ⟨2, ![8192, 256]⟩
abbrev S128x1x256 : Shape := ⟨3, ![128, 1, 256]⟩
abbrev S256x1536 : Shape := ⟨2, ![256, 1536]⟩
abbrev S1x1x256 : Shape := ⟨3, ![1, 1, 256]⟩
abbrev S12x256x128 : Shape := ⟨3, ![12, 256, 128]⟩
abbrev S8192x128 : Shape := ⟨2, ![8192, 128]⟩
abbrev S8192x128x1 : Shape := ⟨3, ![8192, 128, 1]⟩
abbrev S1536x256 : Shape := ⟨2, ![1536, 256]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩
abbrev S128x128 : Shape := ⟨2, ![128, 128]⟩
abbrev S128x1 : Shape := ⟨2, ![128, 1]⟩
abbrev S256x1 : Shape := ⟨2, ![256, 1]⟩
abbrev S256 : Shape := ⟨1, ![256]⟩
abbrev S256x256 : Shape := ⟨2, ![256, 256]⟩
abbrev S128x256 : Shape := ⟨2, ![128, 256]⟩
abbrev S1x256 : Shape := ⟨2, ![1, 256]⟩

abbrev nBuf : Space → Nat
  | .hbm => 12
  | .vmem => 14
  | .smem => 1
  | _ => 0

abbrev bufTy : (tb : Table) → Fin (tcTables nBuf tb) → BufTy
  | .hbm, ⟨0, _⟩ => ⟨S4x2048x32768, .fp8e5m2⟩
  | .hbm, ⟨1, _⟩ => ⟨S4x2048x256, .f32⟩
  | .hbm, ⟨2, _⟩ => ⟨S1536x8192, .bf16⟩
  | .hbm, ⟨3, _⟩ => ⟨S32768x1536, .i8⟩
  | .hbm, ⟨4, _⟩ => ⟨S32768, .f32⟩
  | .hbm, ⟨5, _⟩ => ⟨S12x32768x128, .f32⟩
  | .hbm, ⟨6, _⟩ => ⟨S1, .f32⟩
  | .hbm, ⟨7, _⟩ => ⟨S8192x32768, .fp8e5m2⟩
  | .hbm, ⟨8, _⟩ => ⟨S8192x256, .f32⟩
  | .hbm, ⟨9, _⟩ => ⟨S128x1x256, .f32⟩
  | .hbm, ⟨10, _⟩ => ⟨S32768x1536, .i8⟩
  | .hbm, ⟨11, _⟩ => ⟨S128x1x256, .f32⟩
  | .local _ .vmem, ⟨0, _⟩ => ⟨S8192x256, .fp8e5m2⟩
  | .local _ .vmem, ⟨1, _⟩ => ⟨S8192x256, .fp8e5m2⟩
  | .local _ .vmem, ⟨2, _⟩ => ⟨S8192x256, .f32⟩
  | .local _ .vmem, ⟨3, _⟩ => ⟨S1536x8192, .bf16⟩
  | .local _ .vmem, ⟨4, _⟩ => ⟨S256x1536, .i8⟩
  | .local _ .vmem, ⟨5, _⟩ => ⟨S256x1536, .i8⟩
  | .local _ .vmem, ⟨6, _⟩ => ⟨S1x1x256, .f32⟩
  | .local _ .vmem, ⟨7, _⟩ => ⟨S1x1x256, .f32⟩
  | .local _ .vmem, ⟨8, _⟩ => ⟨S12x256x128, .f32⟩
  | .local _ .vmem, ⟨9, _⟩ => ⟨S12x256x128, .f32⟩
  | .local _ .vmem, ⟨10, _⟩ => ⟨S256x1536, .i8⟩
  | .local _ .vmem, ⟨11, _⟩ => ⟨S256x1536, .i8⟩
  | .local _ .vmem, ⟨12, _⟩ => ⟨S1x1x256, .f32⟩
  | .local _ .vmem, ⟨13, _⟩ => ⟨S1x1x256, .f32⟩
  | .local _ .smem, ⟨0, _⟩ => ⟨S1, .f32⟩
  | _, _ => ⟨S4x2048x32768, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c2_i32_3 : BitVec 32 := 2#32
  let v11 : BitVec 32 := Scalar.muli arg0 c2_i32_3
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c128_i32_4 : BitVec 32 := 128#32
  let c0_i32_7 : BitVec 32 := 0#32
  let v18 : BitVec 1 := Scalar.cmpi .sgt c128_i32_4 c0_i32_7
  let v19 : BitVec 32 := Scalar.extui v18
  let c0_i32_8 : BitVec 32 := 0#32
  let v20 : BitVec 1 := Scalar.cmpi .slt c128_i32_4 c0_i32_8
  let v21 : BitVec 32 := Scalar.extui v20
  let v22 : BitVec 32 := Scalar.subi v19 v21
  let v23 : BitVec 1 := Scalar.cmpi .ne v17 v22
  let v24 : BitVec 32 := Scalar.remsi v11 c128_i32_4
  let c0_i32_9 : BitVec 32 := 0#32
  let v25 : BitVec 1 := Scalar.cmpi .ne v24 c0_i32_9
  let v26 : BitVec 1 := Scalar.andi v23 v25
  let v12 : BitVec 32 := Scalar.divsi v11 c128_i32_4
  let c1_i32_10 : BitVec 32 := 1#32
  let v27 : BitVec 32 := Scalar.subi v12 c1_i32_10
  let v28 : BitVec 32 := Scalar.select v26 v27 v12
  let c128_i32_11 : BitVec 32 := 128#32
  let v29 : BitVec 32 := Scalar.muli v28 c128_i32_11
  v29
def k0_off1 (i : grid0.Coords) : Fin 2 → Nat :=
  let c0 : Index := 0#32
  let arg0 : BitVec 32 := BitVec.ofNat 32 (i 0).val
  let c2_i32_3 : BitVec 32 := 2#32
  let v11 : BitVec 32 := Scalar.muli arg0 c2_i32_3
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c128_i32_4 : BitVec 32 := 128#32
  let c0_i32_7 : BitVec 32 := 0#32
  let v18 : BitVec 1 := Scalar.cmpi .sgt c128_i32_4 c0_i32_7
  let v19 : BitVec 32 := Scalar.extui v18
  let c0_i32_8 : BitVec 32 := 0#32
  let v20 : BitVec 1 := Scalar.cmpi .slt c128_i32_4 c0_i32_8
  let v21 : BitVec 32 := Scalar.extui v20
  let v22 : BitVec 32 := Scalar.subi v19 v21
  let v23 : BitVec 1 := Scalar.cmpi .ne v17 v22
  let v24 : BitVec 32 := Scalar.remsi v11 c128_i32_4
  let c0_i32_9 : BitVec 32 := 0#32
  let v25 : BitVec 1 := Scalar.cmpi .ne v24 c0_i32_9
  let v26 : BitVec 1 := Scalar.andi v23 v25
  let v12 : BitVec 32 := Scalar.divsi v11 c128_i32_4
  let c1_i32_10 : BitVec 32 := 1#32
  let v27 : BitVec 32 := Scalar.subi v12 c1_i32_10
  let v28 : BitVec 32 := Scalar.select v26 v27 v12
  let c128_i32_11 : BitVec 32 := 128#32
  let v29 : BitVec 32 := Scalar.muli v28 c128_i32_11
  let v30 : BitVec 32 := v29
  let v31 : Index := Scalar.indexCast v30
  ![0, v31.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceDeIdeal.lean ====
abbrev S4x2048x32768 : Shape := ⟨3, ![4, 2048, 32768]⟩
abbrev S4x2048x256 : Shape := ⟨3, ![4, 2048, 256]⟩
abbrev S1536x8192 : Shape := ⟨2, ![1536, 8192]⟩
abbrev S32768x1536 : Shape := ⟨2, ![32768, 1536]⟩
abbrev S32768 : Shape := ⟨1, ![32768]⟩
abbrev S12x32768x128 : Shape := ⟨3, ![12, 32768, 128]⟩
abbrev S1 : Shape := ⟨1, ![1]⟩
abbrev S128x1x256 : Shape := ⟨3, ![128, 1, 256]⟩
abbrev S4x2048x256x128 : Shape := ⟨4, ![4, 2048, 256, 128]⟩
abbrev S4x2048x256x1 : Shape := ⟨4, ![4, 2048, 256, 1]⟩
abbrev S8192x32768 : Shape := ⟨2, ![8192, 32768]⟩
abbrev S32768x1 : Shape := ⟨2, ![32768, 1]⟩
abbrev S32768x12x128 : Shape := ⟨3, ![32768, 12, 128]⟩
abbrev S32768x256 : Shape := ⟨2, ![32768, 256]⟩

abbrev nBuf : Space → Nat
  | .hbm => 9
  | .vmem => 8
  | .smem => 1
  | _ => 0

abbrev bufTy : (tb : Table) → Fin (tcTables nBuf tb) → BufTy
  | .hbm, ⟨0, _⟩ => ⟨S4x2048x32768, .fp8e5m2⟩
  | .hbm, ⟨1, _⟩ => ⟨S4x2048x256, .f32⟩
  | .hbm, ⟨2, _⟩ => ⟨S1536x8192, .bf16⟩
  | .hbm, ⟨3, _⟩ => ⟨S32768x1536, .i8⟩
  | .hbm, ⟨4, _⟩ => ⟨S32768, .f32⟩
  | .hbm, ⟨5, _⟩ => ⟨S12x32768x128, .f32⟩
  | .hbm, ⟨6, _⟩ => ⟨S1, .f32⟩
  | .hbm, ⟨7, _⟩ => ⟨S32768x1536, .i8⟩
  | .hbm, ⟨8, _⟩ => ⟨S128x1x256, .f32⟩
  | .local _ .vmem, ⟨0, _⟩ => ⟨S4x2048x32768, .fp8e5m2⟩
  | .local _ .vmem, ⟨1, _⟩ => ⟨S4x2048x256, .f32⟩
  | .local _ .vmem, ⟨2, _⟩ => ⟨S1536x8192, .bf16⟩
  | .local _ .vmem, ⟨3, _⟩ => ⟨S32768x1536, .i8⟩
  | .local _ .vmem, ⟨4, _⟩ => ⟨S32768, .f32⟩
  | .local _ .vmem, ⟨5, _⟩ => ⟨S12x32768x128, .f32⟩
  | .local _ .vmem, ⟨6, _⟩ => ⟨S32768x1536, .i8⟩
  | .local _ .vmem, ⟨7, _⟩ => ⟨S128x1x256, .f32⟩
  | .local _ .smem, ⟨0, _⟩ => ⟨S1, .f32⟩
  | _, _ => ⟨S4x2048x32768, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x2048x32768 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x32768x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x1536 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelPrep.lean ====
abbrev S4x2048x1536 : Shape := ⟨3, ![4, 2048, 1536]⟩
abbrev S4x2048 : Shape := ⟨2, ![4, 2048]⟩
abbrev S8192x1536 : Shape := ⟨2, ![8192, 1536]⟩
abbrev S8x1x1024 : Shape := ⟨3, ![8, 1, 1024]⟩
abbrev S1536x8192 : Shape := ⟨2, ![1536, 8192]⟩
abbrev S1024x512 : Shape := ⟨2, ![1024, 512]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x1536, .fp8e4m3⟩
  | .hbm, ⟨1, _⟩ => ⟨S4x2048, .f32⟩
  | .hbm, ⟨2, _⟩ => ⟨S8192x1536, .fp8e4m3⟩
  | .hbm, ⟨3, _⟩ => ⟨S8x1x1024, .f32⟩
  | .hbm, ⟨4, _⟩ => ⟨S1536x8192, .bf16⟩
  | .local _ .vmem, ⟨0, _⟩ => ⟨S1024x512, .fp8e4m3⟩
  | .local _ .vmem, ⟨1, _⟩ => ⟨S1024x512, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S512x1024, .bf16⟩
  | .local _ .vmem, ⟨5, _⟩ => ⟨S512x1024, .bf16⟩
  | _, _ => ⟨S4x2048x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePrepIdeal.lean ====
abbrev S4x2048x1536 : Shape := ⟨3, ![4, 2048, 1536]⟩
abbrev S4x2048 : Shape := ⟨2, ![4, 2048]⟩
abbrev S1536x8192 : Shape := ⟨2, ![1536, 8192]⟩
abbrev S4x2048x1 : Shape := ⟨3, ![4, 2048, 1]⟩
abbrev S8192x1536 : Shape := ⟨2, ![8192, 1536]⟩

abbrev nBuf : Space → Nat
  | .hbm => 3
  | .vmem => 3
  | .smem => 0
  | _ => 0

abbrev bufTy : (tb : Table) → Fin (tcTables nBuf tb) → BufTy
  | .hbm, ⟨0, _⟩ => ⟨S4x2048x1536, .fp8e4m3⟩
  | .hbm, ⟨1, _⟩ => ⟨S4x2048, .f32⟩
  | .hbm, ⟨2, _⟩ => ⟨S1536x8192, .bf16⟩
  | .local _ .vmem, ⟨0, _⟩ => ⟨S4x2048x1536, .fp8e4m3⟩
  | .local _ .vmem, ⟨1, _⟩ => ⟨S4x2048, .f32⟩
  | .local _ .vmem, ⟨2, _⟩ => ⟨S1536x8192, .bf16⟩
  | _, _ => ⟨S4x2048x1536, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x2048x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Block.lean ====
/-
  What one grid step of the kernel adds to its accumulator, as one term: `lhsBlk` is the step's 1024x2048 block of
  `DL` (the codes times their scales) and `rhsBlk` its 2048x512 block of `E`; the body builds both out of sixteen
  pieces of 128 columns (rows). `sout_A`, `sout_B`, `sout_C` read what each case of the body leaves in the
  accumulator, `out_C` what the last step of a run leaves in the output block.
-/
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.Proof.Dh

open Cert.KernelIdeal Cert.KernelIdeal.Gen

variable {F : FTy → Type} [FloatOps F]

theorem hz : (![0, 0] : Fin 2 → Nat) = fun _ => 0 := funext fun a => by fin_cases a <;> rfl

/-- The lane, among the 128 of a scale slab, that holds the first of the step's sixteen scales (`16 t mod 128`). -/
def lane0 (t : Nat) : BitVec 32 :=
  let v3 : BitVec 32 := Scalar.muli (BitVec.ofNat 32 t) 16#32
  let v5 : BitVec 32 := Scalar.select (Scalar.cmpi .eq 128#32 0#32) 1#32 128#32
  let v6 : BitVec 32 := Scalar.remsi v3 v5
  Scalar.select (Scalar.andi (Scalar.xori (Scalar.cmpi .slt v6 0#32) (Scalar.cmpi .slt v5 0#32)) (Scalar.cmpi .ne v6 0#32))
    (Scalar.addi v6 v5) v6

/-- One 128-column piece of `DL`: the codes `v` times lane `lane` of the scale slab `g`. -/
def dlPiece (lane : BitVec 32) (g : FVec F S1024x128 .f32) (v : Vec F S1024x128 .fp8e5m2) : FVec F S1024x128 .bf16 :=
  let v38 : IVec S1024x128 32 := broadcast S1024x128 lane
  let v43 : IVec S1024x128 32 := select (cmpi .slt v38 (broadcast S1024x128 0#32)) (addi v38 (broadcast S1024x128 128#32)) v38
  let v44 : IVec S1024x128x1 32 := shapeCast S1024x128x1 v43 shapeCasts_S1024x128_S1024x128x1
  let v45 : IVec S1024x128 32 := shapeCast S1024x128 v44 shapeCasts_S1024x128x1_S1024x128
  mulf (extf .bf16 (shapeCast S1024x128 v shapeCasts_S1024x128_S1024x128) bitsLt_fp8e5m2_bf16)
    (truncf .bf16 (dynamicGather 1 g v45) bitsLt_bf16_f32)

theorem inbL (n : Fin 16) : ∀ a, (![0, 128 * n.val] : Fin 2 → Nat) a + S1024x128.size a ≤ S1024x2048.size a := by
  intro a
  have := n.isLt
  match a with
  | ⟨0, _⟩ => show 0 + 1024 ≤ 1024; omega
  | ⟨1, _⟩ => show 128 * n.val + 128 ≤ 2048; omega

theorem inbE (n : Fin 16) : ∀ a, (![128 * n.val, 0] : Fin 2 → Nat) a + S128x512.size a ≤ S2048x512.size a := by
  intro a
  have := n.isLt
  match a with
  | ⟨0, _⟩ => show 128 * n.val + 128 ≤ 2048; omega
  | ⟨1, _⟩ => show 0 + 512 ≤ 512; omega

theorem inbS (n : Fin 16) : ∀ a, (![0, 0, 128 * n.val] : Fin 3 → Nat) a + S1x1x128.size a ≤ S1x1x2048.size a := by
  intro a
  have := n.isLt
  match a with
  | ⟨0, _⟩ => show 0 + 1 ≤ 1; omega
  | ⟨1, _⟩ => show 0 + 1 ≤ 1; omega
  | ⟨2, _⟩ => show 128 * n.val + 128 ≤ 2048; omega

/-- The scale slab the step reads: 128 columns of the row block's 256. -/
def slab (i : grid0.Coords) (x1 : Vec F S1024x256 .f32) : FVec F S1024x128 .f32 :=
  k0_pay6 (View.ld x1 (Rect.unit (s := S1024x256) (k0_off1 i) S1024x128.size (k0_off1_inb i)))

/-- Piece `n` of the step's block of `DL`. -/
def lhsPiece (i : grid0.Coords) (x0 : Vec F S1024x2048 .fp8e5m2) (x1 : Vec F S1024x256 .f32) (n : Fin 16) : FVec F S1024x128 .bf16 :=
  dlPiece (Scalar.addi (lane0 (i 2).val) (BitVec.ofNat 32 n.val)) (slab i x1)
    (View.ld x0 (Rect.unit (s := S1024x2048) ![0, 128 * n.val] S1024x128.size (inbL n)))

/-- Piece `n` of the step's block of `E`. -/
def rhsPiece (x2 : Vec F S2048x512 .i8) (x3 : Vec F S1x1x2048 .f32) (n : Fin 16) : FVec F S128x512 .bf16 :=
  k0_pay2 (View.ld x3 (Rect.unit (s := S1x1x2048) ![0, 0, 128 * n.val] S1x1x128.size (inbS n)))
    (View.ld x2 (Rect.unit (s := S2048x512) ![128 * n.val, 0] S128x512.size (inbE n)))

/-- The step's block of `DL`. -/
def lhsBlk (i : grid0.Coords) (x0 : Vec F S1024x2048 .fp8e5m2) (x1 : Vec F S1024x256 .f32) : FVec F S1024x2048 .bf16 :=
  concatenate S1024x2048 1 (List.ofFn fun n : Fin 16 => (⟨S1024x128, lhsPiece i x0 x1 n⟩ : (s : Shape) × (s.Idx → F .bf16)))
    concatenates_S1024x128_S1024x128_S1024x128_S1024x128_S1024x128_S1024x128_S1024x128_S1024x128_S1024x128_S1024x128_S1024x128_S1024x128_S1024x128_S1024x128_S1024x128_S1024x128_S1024x2048_d1

/-- The step's block of `E`. -/
def rhsBlk (x2 : Vec F S2048x512 .i8) (x3 : Vec F S1x1x2048 .f32) : FVec F S2048x512 .bf16 :=
  concatenate S2048x512 0 (List.ofFn fun n : Fin 16 => (⟨S128x512, rhsPiece x2 x3 n⟩ : (s : Shape) × (s.Idx → F .bf16)))
    concatenates_S128x512_S128x512_S128x512_S128x512_S128x512_S128x512_S128x512_S128x512_S128x512_S128x512_S128x512_S128x512_S128x512_S128x512_S128x512_S128x512_S2048x512_d0

/-- What the step leaves in the accumulator that held `acc`. -/
def stepVal (i : grid0.Coords) (x0 : Vec F S1024x2048 .fp8e5m2) (x1 : Vec F S1024x256 .f32) (x2 : Vec F S2048x512 .i8)
    (x3 : Vec F S1x1x2048 .f32) (acc : Vec F S1024x512 .f32) : FVec F S1024x512 .f32 :=
  k0_pay3 (lhsBlk i x0 x1) (rhsBlk x2 x3) acc

section
variable (c : Dev nD) (i : grid0.Coords) (arg3 : Memref sig .tc .vmem S1024x2048 .fp8e5m2) (harg3 : arg3.IsWhole) (arg4 : Memref sig .tc .vmem S1024x256 .f32) (harg4 : arg4.IsWhole) (arg5 : Memref sig .tc .vmem S2048x512 .i8) (harg5 : arg5.IsWhole) (arg6 : Memref sig .tc .vmem S1x1x2048 .f32) (harg6 : arg6.IsWhole) (arg7 : Memref sig .tc .vmem S1024x512 .bf16) (harg7 : arg7.IsWhole) (arg8 : Memref sig .tc .vmem S1024x512 .f32) (harg8 : arg8.IsWhole)
  (x0 : Vec F S1024x2048 .fp8e5m2) (x1 : Vec F S1024x256 .f32) (x2 : Vec F S2048x512 .i8) (x3 : Vec F S1x1x2048 .f32) (xs0 : Vec F S1024x512 .f32)

/-- A step inside a run: the accumulator's contents go through one `stepVal`. -/
theorem sout_B (hc0 : ¬cond0_0 i) (hc1 : ¬cond0_1 i) :
    sout0_B_0 c i arg3 harg3 arg4 harg4 arg5 harg5 arg6 harg6 arg7 harg7 arg8 harg8 hc0 hc1 x0 x1 x2 x3 xs0 = stepVal i x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  sl_unfold_words
  simp only [View.readAt_eq_ld, harg8.read_unread, View.ld_unit_zero (S := S1024x512) hz]
  rw [harg3.read_unread, harg4.read_unread, harg5.read_unread, harg6.read_unread]
  rfl

/-- The last step of a run: likewise. -/
theorem sout_C (hc0 : ¬cond0_0 i) (hc1 : cond0_1 i) :
    sout0_C_0 c i arg3 harg3 arg4 harg4 arg5 harg5 arg6 harg6 arg7 harg7 arg8 harg8 hc0 hc1 x0 x1 x2 x3 xs0 = stepVal i x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg8.read_unread, View.ld_unit_zero (S := S1024x512) hz]
  rw [harg3.read_unread, harg4.read_unread, harg5.read_unread, harg6.read_unread]
  rfl

/-- The last step of a run stores the accumulator, cast, in the output block. -/
theorem out_C (hc0 : ¬cond0_0 i) (hc1 : cond0_1 i) :
    out0_C_4 c i arg3 harg3 arg4 harg4 arg5 harg5 arg6 harg6 arg7 harg7 arg8 harg8 hc0 hc1 x0 x1 x2 x3 xs0 = k0_pay4 (stepVal i x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  rw [View.canon_unit_zero hz]
  sl_unfold_words
  rw [View.readCov_unit_zero (S := S1024x512) _ hz]
  simp only [View.readAt_eq_ld, harg8.read_unread, View.ld_unit_zero (S := S1024x512) hz]
  rw [harg3.read_unread, harg4.read_unread, harg5.read_unread, harg6.read_unread]
  rfl

/-- The first step of a run: one `stepVal` over the zero block it has just stored. -/
theorem sout_A (hc0 : cond0_0 i) (hc1 : ¬cond0_1 i) :
    sout0_A_0 c i arg3 harg3 arg4 harg4 arg5 harg5 arg6 harg6 arg7 harg7 arg8 harg8 hc0 hc1 x0 x1 x2 x3 = stepVal i x0 x1 x2 x3 (k0_pay5 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) hz, View.readCov_unit_zero (S := S1024x512) _ hz]
  simp only [View.readAt_eq_ld]
  rw [harg3.read_unread, harg4.read_unread, harg5.read_unread, harg6.read_unread]
  rfl

end

end Cert.Proof.Dh
end
-- ==== Proof.BlockValue.lean ====
/-
  One grid step read at an index, over the extended reals: `stepVal_apply` says that the step adds to element `(r, q)`
  of the accumulator the sum, over the step's 2048 columns `k`, of `DL[r, k] * E[k, q]`.
-/
module

public import proofs.«01_k».proof.Proof.Block
public import Idealize.ShloMosaic.Lib.ValueIdx
public import Idealize.ShloMosaic.Lib.Pointwise
public import Idealize.ShloMosaic.Lib.Pipeline.ValueKit.Tiles

@[expose] public section

noncomputable section

open Idealize.ShloMosaic Idealize.ShloMosaic.TcCoe Idealize.SL.Sem
open scoped BigOperators

namespace Cert.Proof.Dh

open Cert.KernelIdeal Cert.KernelIdeal.Gen

theorem lane_val (t n : Fin 16) :
    (Scalar.select (IntOp.cmpi .slt (Scalar.addi (lane0 t.val) (BitVec.ofNat 32 n.val)) 0#32)
      (IntOp.addi (Scalar.addi (lane0 t.val) (BitVec.ofNat 32 n.val)) 128#32)
      (Scalar.addi (lane0 t.val) (BitVec.ofNat 32 n.val))).toNat % 128 = 16 * t.val % 128 + n.val := by
  revert t n; decide +kernel

theorem off1_val (i : grid0.Coords) : k0_off1 i = ![0, 128 * ((i 2).val / 8)] := by
  have h : ∀ t : Fin 16,
      (Scalar.indexCast
        (Scalar.muli
          (Scalar.select
            (Scalar.andi
              (Scalar.cmpi CmpIPredicate.ne
                (Scalar.subi
                  (Scalar.extui (Scalar.cmpi CmpIPredicate.sgt (Scalar.muli (BitVec.ofNat 32 t.val) 16#32) 0#32))
                  (Scalar.extui (Scalar.cmpi CmpIPredicate.slt (Scalar.muli (BitVec.ofNat 32 t.val) 16#32) 0#32)))
                (Scalar.subi (Scalar.extui (Scalar.cmpi CmpIPredicate.sgt 128#32 0#32))
                  (Scalar.extui (Scalar.cmpi CmpIPredicate.slt 128#32 0#32))))
              (Scalar.cmpi CmpIPredicate.ne (Scalar.remsi (Scalar.muli (BitVec.ofNat 32 t.val) 16#32) 128#32) 0#32))
            (Scalar.subi (Scalar.divsi (Scalar.muli (BitVec.ofNat 32 t.val) 16#32) 128#32) 1#32)
            (Scalar.divsi (Scalar.muli (BitVec.ofNat 32 t.val) 16#32) 128#32))
          128#32)).toNat = 128 * (t.val / 8) := by decide +kernel
  funext a
  match a with
  | ⟨0, _⟩ => rfl
  | ⟨1, _⟩ => exact h (i 2)

theorem dlPiece_apply (lane : BitVec 32) (g : FVec Ideal S1024x128 .f32) (v : Vec Ideal S1024x128 .fp8e5m2)
    (r : Fin 1024) (q p : Fin 128)
    (hp : (Scalar.select (IntOp.cmpi .slt lane 0#32) (IntOp.addi lane 128#32) lane).toNat % 128 = p.val) :
    dlPiece lane g v (ix2 r q) = v (ix2 r q) * g (ix2 r p) := by
  simp only [dlPiece, pointwise]
  exact congrArg (fun z => v (ix2 r q) * g z) (congrArg (ix2 r) (Fin.ext hp))

theorem rhsPay_apply (s : Vec Ideal S1x1x128 .f32) (e : Vec Ideal S128x512 .i8) (k : Fin 128) (q : Fin 512) :
    k0_pay2 s e (ix2 k q) = FloatOps.sitofp (F := Ideal) .bf16 (e (ix2 k q)) * s (ix3 0 0 k) := by
  simp only [k0_pay2, pointwise]
  refine congrArg (FloatOps.sitofp FTy.bf16 (e (ix2 k q)) * ·) ?_
  split
  · rfl
  split
  · rfl
  split
  · rfl
  rfl

theorem stepVal_mm (a : FVec Ideal S1024x2048 .bf16) (b : FVec Ideal S2048x512 .bf16) (acc : Vec Ideal S1024x512 .f32) (r : Fin 1024) (q : Fin 512) :
    k0_pay3 a b acc (ix2 r q) = acc (ix2 r q) + ∑ k : Fin 2048, a (ix2 r k) * b (ix2 k q) := by
  simp only [k0_pay3, pointwise]
  rw [zero_add]

/-- Column `k` of the left operand is column `k % 128` of its piece `k / 128`. -/
theorem lhsBlk_apply (i : grid0.Coords) (x0 : Vec Ideal S1024x2048 .fp8e5m2) (x1 : Vec Ideal S1024x256 .f32)
    (r : Fin 1024) (k : Fin 2048) :
    lhsBlk i x0 x1 (ix2 r k)
      = x0 (ix2 r k) * x1 (ix2 r ⟨16 * (i 2).val + k.val / 128, by have := (i 2).isLt; have : (i 2).val < 16 := this; omega⟩) := by
  have ht : (i 2).val < 16 := (i 2).isLt
  have hk := k.isLt
  refine (concatenate_ofFn_apply (t := S1024x2048) (s₁ := S1024x128) 1 (fun n : Fin 16 => lhsPiece i x0 x1 n) _ rfl 128 rfl (ix2 r k)
    ⟨k.val / 128, by omega⟩ rfl (ix2 r ⟨k.val % 128, by omega⟩) rfl ?_).trans ?_
  · intro b hb
    match b with
    | ⟨0, _⟩ => rfl
    | ⟨1, _⟩ => exact absurd rfl hb
  · unfold lhsPiece
    have hp := lane_val ⟨(i 2).val, ht⟩ ⟨k.val / 128, by omega⟩
    rw [dlPiece_apply _ _ _ r _ ⟨16 * (i 2).val % 128 + k.val / 128, by omega⟩ hp]
    refine congrArg₂ (· * ·) ?_ ?_
    · refine View.ld_unit_apply_of _ _ _ _ _ _ ?_
      intro a
      match a with
      | ⟨0, _⟩ => exact (Nat.zero_add _).symm
      | ⟨1, _⟩ => show k.val = 128 * (k.val / 128) + k.val % 128; omega
    · unfold slab k0_pay6
      rw [shapeCast_self]
      refine View.ld_unit_apply_of _ _ _ _ _ _ ?_
      intro a
      refine Eq.trans ?_ (congrArg (· + _) (congrFun (off1_val i).symm a))
      match a with
      | ⟨0, _⟩ => exact (Nat.zero_add _).symm
      | ⟨1, _⟩ =>
        show 16 * (i 2).val + k.val / 128 = 128 * ((i 2).val / 8) + (16 * (i 2).val % 128 + k.val / 128); omega

/-- Row `k` of the right operand is row `k % 128` of its piece `k / 128`. -/
theorem rhsBlk_apply (x2 : Vec Ideal S2048x512 .i8) (x3 : Vec Ideal S1x1x2048 .f32) (k : Fin 2048) (q : Fin 512) :
    rhsBlk x2 x3 (ix2 k q) = FloatOps.sitofp (F := Ideal) .bf16 (x2 (ix2 k q)) * x3 (ix3 0 0 k) := by
  have hk := k.isLt
  refine (concatenate_ofFn_apply (t := S2048x512) (s₁ := S128x512) 0 (fun n : Fin 16 => rhsPiece x2 x3 n) _ rfl 128 rfl (ix2 k q)
    ⟨k.val / 128, by omega⟩ rfl (ix2 ⟨k.val % 128, by omega⟩ q) rfl ?_).trans ?_
  · intro b hb
    match b with
    | ⟨0, _⟩ => exact absurd rfl hb
    | ⟨1, _⟩ => rfl
  · unfold rhsPiece
    rw [rhsPay_apply]
    refine congrArg₂ (fun (u : BitVec 8) (w : EReal) => FloatOps.sitofp (F := Ideal) .bf16 u * w) ?_ ?_
    · refine View.ld_unit_apply_of _ _ _ _ _ _ ?_
      intro a
      match a with
      | ⟨0, _⟩ => show k.val = 128 * (k.val / 128) + k.val % 128; omega
      | ⟨1, _⟩ => exact (Nat.zero_add _).symm
    · refine View.ld_unit_apply_of _ _ _ _ _ _ ?_
      intro a
      match a with
      | ⟨0, _⟩ => rfl
      | ⟨1, _⟩ => rfl
      | ⟨2, _⟩ => show k.val = 128 * (k.val / 128) + k.val % 128; omega

theorem stepVal_apply (i : grid0.Coords) (x0 : Vec Ideal S1024x2048 .fp8e5m2) (x1 : Vec Ideal S1024x256 .f32)
    (x2 : Vec Ideal S2048x512 .i8) (x3 : Vec Ideal S1x1x2048 .f32) (acc : Vec Ideal S1024x512 .f32)
    (r : Fin 1024) (q : Fin 512) :
    stepVal i x0 x1 x2 x3 acc (ix2 r q) = acc (ix2 r q) + ∑ k : Fin 2048,
      (x0 (ix2 r k) * x1 (ix2 r ⟨16 * (i 2).val + k.val / 128, by have : (i 2).val < 16 := (i 2).isLt; omega⟩))
        * (FloatOps.sitofp (F := Ideal) .bf16 (x2 (ix2 k q)) * x3 (ix3 0 0 k)) := by
  unfold stepVal
  rw [stepVal_mm]
  refine congrArg (acc (ix2 r q) + ·) (Finset.sum_congr rfl fun k _ => ?_)
  rw [lhsBlk_apply, rhsBlk_apply]

end Cert.Proof.Dh
end
-- ==== Proof.KernelValue.lean ====
/-
  The kernel's result array over the extended reals. Element `(R, Q)` is the sum over the 32768 vocabulary rows `K` of
  `(DL[R, K] * DS[R, K / 128]) * (E[K, Q] * ES[K])`: the blocks of one result block's sixteen grid points are read as
  slices of the arrays, each point adds its 2048 products, and the sixteen partial sums are one sum.
-/
module

public import proofs.«01_k».proof.Proof.BlockValue
public import proofs.«01_k».proof.Proof.Gen.KernelIdeal.Value
public import Idealize.ShloMosaic.Lib.Claim

@[expose] public section

noncomputable section

open Idealize.ShloMosaic Idealize.ShloMosaic.TcCoe Idealize.SL.Sem
open scoped BigOperators

namespace Cert.Proof.Dh

open Cert.KernelIdeal Cert.KernelIdeal.Gen Cert.KernelIdeal.Value

/-- `n` runs of `b` consecutive terms are `b * n` consecutive terms. -/
theorem sum_runs (f : ℕ → EReal) (b n : ℕ) :
    ∑ s ∈ Finset.range n, ∑ k ∈ Finset.range b, f (b * s + k) = ∑ k ∈ Finset.range (b * n), f k := by
  induction n with
  | zero => simp
  | succ n ih => rw [Finset.sum_range_succ, ih, Nat.mul_succ, Finset.sum_range_add]

theorem idx0 : ∀ t : Fin cfg0.N, win0_0.index t 0 = t.val / 48 ∧ win0_0.index t 1 = t.val % 16 :=
  (by decide +kernel : ∀ t : Fin grid0.N, _)
theorem idx1 : ∀ t : Fin cfg0.N, win0_1.index t 0 = t.val / 48 ∧ win0_1.index t 1 = 0 :=
  (by decide +kernel : ∀ t : Fin grid0.N, _)
theorem idx2 : ∀ t : Fin cfg0.N, win0_2.index t 0 = t.val % 16 ∧ win0_2.index t 1 = t.val / 16 % 3 :=
  (by decide +kernel : ∀ t : Fin grid0.N, _)
theorem idx3 : ∀ t : Fin cfg0.N, win0_3.index t 0 = t.val % 16 ∧ win0_3.index t 1 = 0 ∧ win0_3.index t 2 = 0 :=
  (by decide +kernel : ∀ t : Fin grid0.N, _)
theorem coord2 : ∀ t : Fin cfg0.N, (grid0.coords t 2).val = t.val % 16 :=
  (by decide +kernel : ∀ t : Fin grid0.N, _)

theorem lt_N (t : Fin cfg0.N) : t.val < 384 := t.isLt.trans_eq N_0

variable (m : (ℓ : Loc nD τ sig) → Buf (Elt Ideal) ℓ)

/-- The operands of the product, as the region finds them. -/
abbrev aDL (c : Dev nD) : Vec Ideal S8192x32768 .fp8e5m2 := V m c main_v0
abbrev aDS (c : Dev nD) : Vec Ideal S8192x256 .f32 := V m c main_v1
abbrev aE (c : Dev nD) : Vec Ideal S32768x1536 .i8 := V m c main_arg2
abbrev aES (c : Dev nD) : Vec Ideal S16x1x2048 .f32 := V m c main_v2

theorem iblk0_apply (c : Dev nD) (t : Fin cfg0.N) (r : Fin 1024) (k : Fin 2048) :
    (iblk m c 0 t : Vec Ideal S1024x2048 .fp8e5m2) (ix2 r k)
      = aDL m c (ix2 ⟨1024 * (t.val / 48) + r.val, by have := lt_N t; omega⟩ ⟨2048 * (t.val % 16) + k.val, by omega⟩) := by
  unfold iblk
  rw [View.read_apply]
  refine congrArg (V m c main_v0) (funext fun a => Fin.ext ?_)
  match a with
  | ⟨0, _⟩ => show win0_0.index t 0 * 1024 + 1 * r.val = 1024 * (t.val / 48) + r.val; rw [(idx0 t).1]; omega
  | ⟨1, _⟩ => show win0_0.index t 1 * 2048 + 1 * k.val = 2048 * (t.val % 16) + k.val; rw [(idx0 t).2]; omega

theorem iblk1_apply (c : Dev nD) (t : Fin cfg0.N) (r : Fin 1024) (k : Fin 256) :
    (iblk m c 1 t : Vec Ideal S1024x256 .f32) (ix2 r k)
      = aDS m c (ix2 ⟨1024 * (t.val / 48) + r.val, by have := lt_N t; omega⟩ k) := by
  unfold iblk
  rw [View.read_apply]
  refine congrArg (V m c main_v1) (funext fun a => Fin.ext ?_)
  match a with
  | ⟨0, _⟩ => show win0_1.index t 0 * 1024 + 1 * r.val = 1024 * (t.val / 48) + r.val; rw [(idx1 t).1]; omega
  | ⟨1, _⟩ => show win0_1.index t 1 * 256 + 1 * k.val = k.val; rw [(idx1 t).2]; omega

theorem iblk2_apply (c : Dev nD) (t : Fin cfg0.N) (k : Fin 2048) (q : Fin 512) :
    (iblk m c 2 t : Vec Ideal S2048x512 .i8) (ix2 k q)
      = aE m c (ix2 ⟨2048 * (t.val % 16) + k.val, by omega⟩ ⟨512 * (t.val / 16 % 3) + q.val, by omega⟩) := by
  unfold iblk
  rw [View.read_apply]
  refine congrArg (V m c main_arg2) (funext fun a => Fin.ext ?_)
  match a with
  | ⟨0, _⟩ => show win0_2.index t 0 * 2048 + 1 * k.val = 2048 * (t.val % 16) + k.val; rw [(idx2 t).1]; omega
  | ⟨1, _⟩ => show win0_2.index t 1 * 512 + 1 * q.val = 512 * (t.val / 16 % 3) + q.val; rw [(idx2 t).2]; omega

theorem iblk3_apply (c : Dev nD) (t : Fin cfg0.N) (k : Fin 2048) :
    (iblk m c 3 t : Vec Ideal S1x1x2048 .f32) (ix3 0 0 k) = aES m c (ix3 ⟨t.val % 16, by omega⟩ 0 k) := by
  unfold iblk
  rw [View.read_apply]
  refine congrArg (V m c main_v2) (funext fun a => Fin.ext ?_)
  match a with
  | ⟨0, _⟩ => show win0_3.index t 0 * 1 + 1 * 0 = t.val % 16; rw [(idx3 t).1]; omega
  | ⟨1, _⟩ => show win0_3.index t 1 * 1 + 1 * 0 = 0; rw [(idx3 t).2.1]
  | ⟨2, _⟩ => show win0_3.index t 2 * 2048 + 1 * k.val = k.val; rw [(idx3 t).2.2]; omega

/-- The product at row `R`, column `Q` and vocabulary row `K`. -/
def prod (c : Dev nD) (R : Fin 8192) (Q : Fin 1536) (K : Fin 32768) : EReal :=
  (aDL m c (ix2 R K) * aDS m c (ix2 R ⟨K.val / 128, by omega⟩))
    * (FloatOps.sitofp (F := Ideal) .bf16 (aE m c (ix2 K Q)) * aES m c (ix3 ⟨K.val / 2048, by omega⟩ 0 ⟨K.val % 2048, by omega⟩))

/-- The same at natural numbers, zero outside the arrays. -/
def term (c : Dev nD) (R : Fin 8192) (Q : Fin 1536) (K : ℕ) : EReal :=
  if h : K < 32768 then prod m c R Q ⟨K, h⟩ else 0

/-- One grid step over the point's own blocks. -/
abbrev stepAt (c : Dev nD) (t : Fin cfg0.N) (acc : Vec Ideal S1024x512 .f32) : Vec Ideal S1024x512 .f32 :=
  stepVal (F := Ideal) (grid0.coords t) (iblk m c 0 t) (iblk m c 1 t) (iblk m c 2 t) (iblk m c 3 t) acc

theorem stepAt_apply (c : Dev nD) (t : Fin cfg0.N) (acc : Vec Ideal S1024x512 .f32) (r : Fin 1024) (q : Fin 512)
    (R : Fin 8192) (Q : Fin 1536) (hR : R.val = 1024 * (t.val / 48) + r.val) (hQ : Q.val = 512 * (t.val / 16 % 3) + q.val) :
    stepAt m c t acc (ix2 r q)
      = acc (ix2 r q) + ∑ k ∈ Finset.range 2048, term m c R Q (2048 * (t.val % 16) + k) := by
  unfold stepAt
  rw [stepVal_apply, Finset.sum_range]
  refine congrArg (acc (ix2 r q) + ·) (Finset.sum_congr rfl fun k _ => ?_)
  have hk := k.isLt
  rw [iblk0_apply, iblk1_apply, iblk2_apply, iblk3_apply]
  unfold term
  rw [dif_pos (show 2048 * (t.val % 16) + k.val < 32768 by omega)]
  unfold prod
  have hR' : (⟨1024 * (t.val / 48) + r.val, by have := lt_N t; omega⟩ : Fin 8192) = R := Fin.ext hR.symm
  have hQ' : (⟨512 * (t.val / 16 % 3) + q.val, by omega⟩ : Fin 1536) = Q := Fin.ext hQ.symm
  rw [hR', hQ']
  have e1 : (⟨16 * (grid0.coords t 2).val + k.val / 128, by rw [coord2 t]; omega⟩ : Fin 256)
      = ⟨(2048 * (t.val % 16) + k.val) / 128, by omega⟩ := Fin.ext (by
    show 16 * (grid0.coords t 2).val + k.val / 128 = _
    rw [coord2 t]; show _ = (2048 * (t.val % 16) + k.val) / 128; omega)
  have e2 : (⟨t.val % 16, by omega⟩ : Fin 16) = ⟨(2048 * (t.val % 16) + k.val) / 2048, by omega⟩ := Fin.ext (by
    show _ = (2048 * (t.val % 16) + k.val) / 2048; dsimp only; omega)
  have e3 : k = ⟨(2048 * (t.val % 16) + k.val) % 2048, by omega⟩ := Fin.ext (by
    show _ = (2048 * (t.val % 16) + k.val) % 2048; omega)
  rw [e1]
  exact congrArg (fun z => _ * (_ * aES m c z)) (by rw [← e2, ← e3])

/-- The accumulator after a point: the first point of a run starts from zero, the others add to what is there. -/
theorem scAt_first (c : Dev nD) (n : ℕ) (hb : n < cfg0.N) (acc : Vec Ideal S1024x512 .f32) (h0 : n % 16 = 0) :
    scAt0_0 m c n hb acc = stepAt m c ⟨n, hb⟩ (k0_pay5 (F := Ideal)) := by
  unfold scAt0_0
  rw [dif_pos h0, dif_neg (by omega)]
  exact sout_A ..

theorem scAt_next (c : Dev nD) (n : ℕ) (hb : n < cfg0.N) (acc : Vec Ideal S1024x512 .f32) (h0 : ¬ n % 16 = 0) :
    scAt0_0 m c n hb acc = stepAt m c ⟨n, hb⟩ acc := by
  unfold scAt0_0
  rw [dif_neg h0]
  by_cases h1 : n % 16 = 15
  · rw [dif_pos h1]; exact sout_C ..
  · rw [dif_neg h1]; exact sout_B ..

theorem pay5_apply (j : S1024x512.Idx) : k0_pay5 (F := Ideal) j = 0 := by
  simp only [k0_pay5, pointwise]

/-- The row and the column of the result that element `j` of run `u`'s block is. -/
def rowOf (u : ℕ) (hu : u < 24) (j : S1024x512.Idx) : Fin 8192 := ⟨1024 * (u / 3) + (j 0).val, by
  have : (j 0).val < 1024 := (j 0).isLt
  omega⟩
def colOf (u : ℕ) (j : S1024x512.Idx) : Fin 1536 := ⟨512 * (u % 3) + (j 1).val, by
  have : (j 1).val < 512 := (j 1).isLt
  omega⟩

theorem step_run (c : Dev nD) (u : ℕ) (hu : u < 24) (n : ℕ) (hb : n < cfg0.N) (hn : n / 16 = u)
    (acc : Vec Ideal S1024x512 .f32) (j : S1024x512.Idx) :
    stepAt m c ⟨n, hb⟩ acc j
      = acc j + ∑ k ∈ Finset.range 2048, term m c (rowOf u hu j) (colOf u j) (2048 * (n % 16) + k) := by
  have h := stepAt_apply m c ⟨n, hb⟩ acc (j 0) (j 1) (rowOf u hu j) (colOf u j)
    (by show 1024 * (u / 3) + _ = 1024 * (n / 48) + _; rw [← hn, Nat.div_div_eq_div_mul])
    (by show 512 * (u % 3) + _ = 512 * (n / 16 % 3) + _; rw [hn])
  have e : (ix2 (j 0) (j 1) : S1024x512.Idx) = j := funext fun a => by
    match a with
    | ⟨0, _⟩ => rfl
    | ⟨1, _⟩ => rfl
  rw [e] at h
  exact h

/-- The accumulator after the last point of run `u`. -/
theorem acc_last (c : Dev nD) (u : ℕ) (hu : u < 24) (ht : 16 * u + 15 < cfg0.N) (j : S1024x512.Idx) :
    (outsAt0 m c (16 * u + 15) ht).2 j = ∑ K : Fin 32768, prod m c (rowOf u hu j) (colOf u j) K := by
  have hs := soutsAt0_0_eq m c ⟨16 * u + 15, ht⟩
  have hd : (16 * u + 15) / 16 = u := by omega
  have hm : (16 * u + 15) % 16 = 15 := by omega
  dsimp only at hs
  have key := Pipeline.accAt_add_apply (fun n h => scAt0_0 m c n h (VS0_0.read (Elt Ideal) VS0_0.junk)) (scAt0_0 m c)
    (fun _ => (0 : EReal))
    (fun n (j : S1024x512.Idx) => ∑ k ∈ Finset.range 2048, term m c (rowOf u hu j) (colOf u j) (2048 * (n % 16) + k))
    (16 * u) 15
    (fun h i => by
      show scAt0_0 m c (16 * u) h _ i = _
      rw [scAt_first m c _ h _ (by omega), step_run m c u hu _ h (by omega), pay5_apply])
    (fun n h acc i h1 h2 => by rw [scAt_next m c _ h _ (by omega), step_run m c u hu _ h (by omega)])
    15 le_rfl ht j
  have hs' : (outsAt0 m c (16 * u + 15) ht).2
      = Pipeline.accAt (fun n h => scAt0_0 m c n h (VS0_0.read (Elt Ideal) VS0_0.junk)) (scAt0_0 m c) (16 * u) 15 ht := by
    rw [hs]
    congr 1 <;> omega
  rw [hs', key, zero_add]
  have e : ∀ s ∈ Finset.range (15 + 1), (16 * u + s) % 16 = s := fun s hs => by
    have := Finset.mem_range.mp hs; omega
  rw [Finset.sum_congr rfl fun s hs => by rw [e s hs]]
  rw [sum_runs (fun K => term m c (rowOf u hu j) (colOf u j) K) 2048 (15 + 1), Finset.sum_range]
  refine Finset.sum_congr rfl fun K _ => ?_
  unfold term
  rw [dif_pos K.isLt]

/-- The block the last point of a run writes back is the accumulator. -/
theorem out_last (c : Dev nD) (u : ℕ) (ht : 16 * u + 15 < cfg0.N) :
    (outsAt0 m c (16 * u + 15) ht).1 = (outsAt0 m c (16 * u + 15) ht).2 := by
  have h := outsAt0_C m c ⟨16 * u + 15, ht⟩ (by show ¬ (16 * u + 15) % 16 = 0; omega) (by show (16 * u + 15) % 16 = 15; omega)
  have h1 := congrArg Prod.fst h
  have h2 := congrArg Prod.snd h
  refine h1.trans (Eq.trans ?_ h2.symm)
  dsimp only
  rw [out_C, sout_C]
  rfl

/-- **The result array**: element `(R, Q)` is the sum over the vocabulary rows of the products. -/
theorem G4_apply (c : Dev nD) (R : Fin 8192) (Q : Fin 1536) :
    G4 m c (ix2 R Q) = ∑ K : Fin 32768, prod m c R Q K := by
  have hN : cfg0.N = 384 := N_0
  have hR := R.isLt
  have hQ := Q.isLt
  have hu : 3 * (R.val / 1024) + Q.val / 512 < 24 := by omega
  have hp : pt4Of (ix2 R Q) = 16 * (3 * (R.val / 1024) + Q.val / 512) + 15 := by
    show 16 * (3 * (R.val / 1024 - 0) + 1 * (Q.val / 512 - 0)) + 15 = _
    omega
  have hlt : 16 * (3 * (R.val / 1024) + Q.val / 512) + 15 < cfg0.N := by omega
  have hlt' : pt4Of (ix2 R Q) < cfg0.N := hp ▸ hlt
  unfold G4
  rw [dif_pos hlt']
  have hsw := outsAt0_sweep m c (pt4Of (ix2 R Q)) hlt'
  rw [← hsw]
  have hgen : ∀ (n : ℕ) (hn : n < cfg0.N), n = 16 * (3 * (R.val / 1024) + Q.val / 512) + 15 →
      (outsAt0 m c n hn).1 (loc4Of (ix2 R Q)) = ∑ K : Fin 32768, prod m c R Q K := by
    intro n hn e
    subst e
    rw [out_last, acc_last m c _ hu]
    have e1 : rowOf (3 * (R.val / 1024) + Q.val / 512) hu (loc4Of (ix2 R Q)) = R := Fin.ext (by
      show 1024 * ((3 * (R.val / 1024) + Q.val / 512) / 3) + R.val % 1024 = R.val
      omega)
    have e2 : colOf (3 * (R.val / 1024) + Q.val / 512) (loc4Of (ix2 R Q)) = Q := Fin.ext (by
      show 512 * ((3 * (R.val / 1024) + Q.val / 512) % 3) + Q.val % 512 = Q.val
      omega)
    rw [e1, e2]
  exact hgen _ hlt' hp

/-- The product at row `R`, column `Q` and vocabulary row `K`, of the four argument arrays. -/
def argProd (a0 : Vec Ideal S4x2048x32768 .fp8e5m2) (a1 : Vec Ideal S4x2048x256 .f32) (a2 : Vec Ideal S32768x1536 .i8)
    (a3 : Vec Ideal S32768 .f32) (R : Fin 8192) (Q : Fin 1536) (K : Fin 32768) : EReal :=
  (a0 (ix3 ⟨R.val / 2048, by omega⟩ ⟨R.val % 2048, by omega⟩ K)
      * a1 (ix3 ⟨R.val / 2048, by omega⟩ ⟨R.val % 2048, by omega⟩ ⟨K.val / 128, by omega⟩))
    * (FloatOps.sitofp (F := Ideal) .bf16 (a2 (ix2 K Q)) * a3 (ix1 K))

theorem V_v0 (c : Dev nD) : V m c main_v0 = shapeCast S8192x32768
    (m ((c : Thread nD τ).loc main_arg0) : Vec Ideal S4x2048x32768 .fp8e5m2) shapeCasts_S4x2048x32768_S8192x32768 := by
  dsimp only [V, hostOps0]; after_results; rfl
theorem V_v1 (c : Dev nD) : V m c main_v1 = shapeCast S8192x256
    (m ((c : Thread nD τ).loc main_arg1) : Vec Ideal S4x2048x256 .f32) shapeCasts_S4x2048x256_S8192x256 := by
  dsimp only [V, hostOps0]; after_results; rfl
theorem V_v2 (c : Dev nD) : V m c main_v2 = shapeCast S16x1x2048
    (m ((c : Thread nD τ).loc main_arg3) : Vec Ideal S32768 .f32) shapeCasts_S32768_S16x1x2048 := by
  dsimp only [V, hostOps0]; after_results; rfl

/-- The operands the region finds are the arguments, reshaped. -/
theorem prod_eq (c : Dev nD) (R : Fin 8192) (Q : Fin 1536) (K : Fin 32768) :
    prod m c R Q K
      = argProd (m ((c : Thread nD τ).loc main_arg0)) (m ((c : Thread nD τ).loc main_arg1))
          (m ((c : Thread nD τ).loc main_arg2)) (m ((c : Thread nD τ).loc main_arg3)) R Q K := by
  unfold prod aDL aDS aE aES argProd
  rw [V_v0, V_v1, V_v2, V_main_arg2]
  simp only [pointwise]

end Cert.Proof.Dh
end
-- ==== Proof.RefValue.lean ====
/-
  The reference's result over the extended reals, read at an index.
-/
module

public import proofs.«01_k».proof.Proof.Gen.ReferenceIdeal.Value
public import Idealize.ShloMosaic.Lib.ValueIdx
public import Idealize.ShloMosaic.Lib.Pointwise

@[expose] public section

noncomputable section

open Idealize.ShloMosaic Idealize.ShloMosaic.TcCoe Idealize.SL.Sem
open scoped BigOperators

namespace Cert.Proof.DhRef

open Cert.ReferenceIdeal Cert.ReferenceIdeal.Gen

theorem pay_apply (a0 : Vec Ideal S4x2048x32768 .fp8e5m2) (a1 : Vec Ideal S4x2048x256 .f32)
    (a2 : Vec Ideal S32768x1536 .i8) (a3 : Vec Ideal S32768 .f32) (R : Fin 8192) (Q : Fin 1536) :
    k0_pay1 a0 a1 a2 a3 (ix2 R Q) = ∑ K : Fin 32768,
      (a0 (ix3 ⟨R.val / 2048, by omega⟩ ⟨R.val % 2048, by omega⟩ K)
          * a1 (ix3 ⟨R.val / 2048, by omega⟩ ⟨R.val % 2048, by omega⟩ ⟨K.val / 128, by omega⟩))
        * (FloatOps.sitofp (F := Ideal) .bf16 (a2 (ix2 K Q)) * a3 (ix1 K)) := by
  simp only [k0_pay1, pointwise]
  rw [zero_add]
  rfl

end Cert.Proof.DhRef
end
-- ==== Proof.DeBlock.lean ====
/-
  What one grid step of the embedding-gradient kernel stores, as two terms of the step's input blocks: `codesBlk` its
  256x1536 block of new codes and `scalesBlk` its 256 new scales. Both are functions of the step's block of new weights
  `wBlk`, which is the old weights minus the step size times the gradient. `out7_eq` and `out8_eq` read them off the body.
-/
module

public import proofs.«01_k».proof.Proof.Gen.KernelDeIdeal.Value
public import Idealize.ShloMosaic.Lib.Pipeline.Value
public import Idealize.ShloMosaic.Lib.Tactic
public import Idealize.ShloMosaic.Lib.ValueIdx
public import Idealize.ShloMosaic.Lib.Pointwise

@[expose] public section

noncomputable section

open Idealize.ShloMosaic Idealize.ShloMosaic.TcCoe Idealize.SL.Sem

namespace Cert.Proof.De

open Cert.KernelDeIdeal Cert.KernelDeIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The lane, among the 128 of a scale slab, that holds the first of the step's two scales (`2 t mod 128`). -/
def lane0 (t : Nat) : BitVec 32 :=
  let v0 : BitVec 32 := Scalar.muli (BitVec.ofNat 32 t) 2#32
  let v2 : BitVec 32 := Scalar.select (Scalar.cmpi .eq 128#32 0#32) 1#32 128#32
  let v3 : BitVec 32 := Scalar.remsi v0 v2
  Scalar.select (Scalar.andi (Scalar.xori (Scalar.cmpi .slt v3 0#32) (Scalar.cmpi .slt v2 0#32)) (Scalar.cmpi .ne v3 0#32))
    (Scalar.addi v3 v2) v3

/-- One 128-column piece of `DL`: the codes `v` times lane `lane` of the scale slab `g`. -/
def dlPiece (lane : BitVec 32) (g : FVec F S8192x128 .f32) (v : Vec F S8192x128 .fp8e5m2) : FVec F S8192x128 .bf16 :=
  let v38 : IVec S8192x128 32 := broadcast S8192x128 lane
  let v43 : IVec S8192x128 32 := select (cmpi .slt v38 (broadcast S8192x128 0#32)) (addi v38 (broadcast S8192x128 128#32)) v38
  let v44 : IVec S8192x128x1 32 := shapeCast S8192x128x1 v43 shapeCasts_S8192x128_S8192x128x1
  let v45 : IVec S8192x128 32 := shapeCast S8192x128 v44 shapeCasts_S8192x128x1_S8192x128
  mulf (extf .bf16 (shapeCast S8192x128 v shapeCasts_S8192x128_S8192x128) bitsLt_fp8e5m2_bf16)
    (truncf .bf16 (dynamicGather 1 g v45) bitsLt_bf16_f32)

theorem inbL (n : Fin 2) : ∀ a, (![0, 128 * n.val] : Fin 2 → Nat) a + S8192x128.size a ≤ S8192x256.size a := by
  intro a
  have := n.isLt
  match a with
  | ⟨0, _⟩ => show 0 + 8192 ≤ 8192; omega
  | ⟨1, _⟩ => show 128 * n.val + 128 ≤ 256; omega

theorem inbC (n : Fin 12) : ∀ a, (![n.val, 0, 0] : Fin 3 → Nat) a + S1x256x128.size a ≤ S12x256x128.size a := by
  intro a
  have := n.isLt
  match a with
  | ⟨0, _⟩ => show n.val + 1 ≤ 12; omega
  | ⟨1, _⟩ => show 0 + 256 ≤ 256; omega
  | ⟨2, _⟩ => show 0 + 128 ≤ 128; omega

theorem inbS (n : Fin 2) : ∀ a, (![0, 0, 128 * n.val] : Fin 3 → Nat) a + S1x1x128.size a ≤ S1x1x256.size a := by
  intro a
  have := n.isLt
  match a with
  | ⟨0, _⟩ => show 0 + 1 ≤ 1; omega
  | ⟨1, _⟩ => show 0 + 1 ≤ 1; omega
  | ⟨2, _⟩ => show 128 * n.val + 128 ≤ 256; omega

/-- The scale slab the step reads: 128 columns of the 256. -/
def slab (i : grid0.Coords) (x1 : Vec F S8192x256 .f32) : FVec F S8192x128 .f32 :=
  k0_pay3 (View.ld x1 (Rect.unit (s := S8192x256) (k0_off1 i) S8192x128.size (k0_off1_inb i)))

/-- The step's block of `DL`. -/
def dlBlk (i : grid0.Coords) (x0 : Vec F S8192x256 .fp8e5m2) (x1 : Vec F S8192x256 .f32) : FVec F S8192x256 .bf16 :=
  concatenate S8192x256 1 (List.ofFn fun n : Fin 2 => (⟨S8192x128, dlPiece (Scalar.addi (lane0 (i 0).val) (BitVec.ofNat 32 n.val)) (slab i x1)
      (View.ld x0 (Rect.unit (s := S8192x256) ![0, 128 * n.val] S8192x128.size (inbL n)))⟩ : (s : Shape) × (s.Idx → F .bf16)))
    concatenates_S8192x128_S8192x128_S8192x256_d1

/-- The step's block of the head's gradient: 256 rows of `DLᵀ HH`. -/
def deBlk (x2 : Vec F S1536x8192 .bf16) (dl : FVec F S8192x256 .bf16) : FVec F S256x1536 .f32 :=
  transpose S256x1536 [1, 0] (matmul dot_S1536x8192_S8192x256_S1536x256_1_0_0_1_n_n none (x2 : FVec F S1536x8192 .bf16) dl (constant S1536x256 .f32 0x00000000#32))
    transposes_S1536x256_p1_0_S256x1536

/-- The step's block of the scattered gradient, its twelve column slabs side by side. -/
def scBlk (x5 : Vec F S12x256x128 .f32) : FVec F S256x1536 .f32 :=
  concatenate S256x1536 1 (List.ofFn fun n : Fin 12 => (⟨S256x128, k0_pay8 (View.ld x5 (Rect.unit (s := S12x256x128) ![n.val, 0, 0] S1x256x128.size (inbC n)))⟩ :
      (s : Shape) × (s.Idx → F .f32)))
    concatenates_S256x128_S256x128_S256x128_S256x128_S256x128_S256x128_S256x128_S256x128_S256x128_S256x128_S256x128_S256x128_S256x1536_d1

/-- 128 scales as a column. -/
def esPiece (v : Vec F S1x1x128 .f32) : FVec F S128x1 .f32 :=
  extractStridedSlice S128x1 ![0, 0] (transpose S128x128 [1, 0] (broadcastTo S128x128 (shapeCast S1x128 (shapeCast S1x128 v shapeCasts_S1x1x128_S1x128)
    shapeCasts_S1x128_S1x128) broadcasts_S1x128_S128x128) transposes_S128x128_p1_0_S128x128) slices_S128x128_o0_0_S128x1

/-- The step's 256 old scales as a column. -/
def esBlk (x4 : Vec F S1x1x256 .f32) : FVec F S256x1 .f32 :=
  concatenate S256x1 0 (List.ofFn fun n : Fin 2 => (⟨S128x1, esPiece (View.ld x4 (Rect.unit (s := S1x1x256) ![0, 0, 128 * n.val] S1x1x128.size (inbS n)))⟩ :
      (s : Shape) × (s.Idx → F .f32)))
    concatenates_S128x1_S128x1_S256x1_d0

/-- The step's new codes, of its inputs. -/
def codesBlk (i : grid0.Coords) (x0 : Vec F S8192x256 .fp8e5m2) (x1 : Vec F S8192x256 .f32) (x2 : Vec F S1536x8192 .bf16)
    (x3 : Vec F S256x1536 .i8) (x4 : Vec F S1x1x256 .f32) (x5 : Vec F S12x256x128 .f32) (lr : Elt F .f32) : IVec S256x1536 8 :=
  k0_pay1 (k0_pay14 (deBlk x2 (dlBlk i x0 x1)) (scBlk x5) (esBlk x4) x3 lr) (k0_pay17 (deBlk x2 (dlBlk i x0 x1)) (scBlk x5) (esBlk x4) x3 lr)

/-- The step's new scales, of its inputs. -/
def scalesBlk (i : grid0.Coords) (x0 : Vec F S8192x256 .fp8e5m2) (x1 : Vec F S8192x256 .f32) (x2 : Vec F S1536x8192 .bf16)
    (x3 : Vec F S256x1536 .i8) (x4 : Vec F S1x1x256 .f32) (x5 : Vec F S12x256x128 .f32) (lr : Elt F .f32) : FVec F S1x1x256 .f32 :=
  k0_pay2 (k0_pay16 (deBlk x2 (dlBlk i x0 x1)) (scBlk x5) (esBlk x4) x3 lr)

section
variable (c : Dev nD) (i : grid0.Coords) (arg1 : Memref sig .tc .vmem S8192x256 .fp8e5m2) (harg1 : arg1.IsWhole) (arg2 : Memref sig .tc .vmem S8192x256 .f32) (harg2 : arg2.IsWhole) (arg3 : Memref sig .tc .vmem S1536x8192 .bf16) (harg3 : arg3.IsWhole) (arg4 : Memref sig .tc .vmem S256x1536 .i8) (harg4 : arg4.IsWhole) (arg5 : Memref sig .tc .vmem S1x1x256 .f32) (harg5 : arg5.IsWhole) (arg6 : Memref sig .tc .vmem S12x256x128 .f32) (harg6 : arg6.IsWhole) (arg7 : Memref sig .tc .smem S1 .f32) (harg7 : arg7.IsWhole) (arg8 : Memref sig .tc .vmem S256x1536 .i8) (harg8 : arg8.IsWhole) (arg9 : Memref sig .tc .vmem S1x1x256 .f32) (harg9 : arg9.IsWhole)
  (x0 : Vec F S8192x256 .fp8e5m2) (x1 : Vec F S8192x256 .f32) (x2 : Vec F S1536x8192 .bf16) (x3 : Vec F S256x1536 .i8) (x4 : Vec F S1x1x256 .f32) (x5 : Vec F S12x256x128 .f32) (x6 : Vec F S1 .f32)

theorem out7_eq :
    out0_A_7 c i arg1 harg1 arg2 harg2 arg3 harg3 arg4 harg4 arg5 harg5 arg6 harg6 arg7 harg7 arg8 harg8 arg9 harg9 x0 x1 x2 x3 x4 x5 x6
      = codesBlk i x0 x1 x2 x3 x4 x5 (x6 (ix1 0)) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz2]
  simp only [View.readAt_eq_ld]
  rw [harg1.read_unread, harg2.read_unread, harg3.read_unread, harg4.read_unread, harg5.read_unread, harg6.read_unread, harg7.read_unread]
  simp only [View.ld_unit_zero (S := S256x1536) hz2, View.ld_unit_zero (S := S1536x8192) hz2]
  exact congrArg (codesBlk i x0 x1 x2 x3 x4 x5) (congrArg x6 (funext fun a => by match a with | ⟨0, _⟩ => rfl))

theorem out8_eq :
    out0_A_8 c i arg1 harg1 arg2 harg2 arg3 harg3 arg4 harg4 arg5 harg5 arg6 harg6 arg7 harg7 arg8 harg8 arg9 harg9 x0 x1 x2 x3 x4 x5 x6
      = scalesBlk i x0 x1 x2 x3 x4 x5 (x6 (ix1 0)) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz3]
  simp only [View.readAt_eq_ld]
  rw [harg1.read_unread, harg2.read_unread, harg3.read_unread, harg4.read_unread, harg5.read_unread, harg6.read_unread, harg7.read_unread]
  simp only [View.ld_unit_zero (S := S256x1536) hz2, View.ld_unit_zero (S := S1536x8192) hz2]
  exact congrArg (scalesBlk i x0 x1 x2 x3 x4 x5) (congrArg x6 (funext fun a => by match a with | ⟨0, _⟩ => rfl))
end

end Cert.Proof.De
end
-- ==== Proof.DeQuant.lean ====
/-
  The two ways of finding a power of two above a nonnegative extended real. One counts the powers at most the value and
  builds the power from its exponent field (`scaleK`, `invK`); the other takes the least power above the value and its
  reciprocal (`scaleR`, `invR`). `scale_eq` and `inv_eq` say that they agree.
-/
module

public import Idealize.ShloMosaic.Lib.ValueIdx
public import Idealize.ShloMosaic.Lib.Pointwise

@[expose] public section

noncomputable section

open Idealize.ShloMosaic
open scoped BigOperators

namespace Cert.Proof.De

/-- The single-precision value whose exponent field is `n`. -/
def pw (n : ℕ) : EReal := Ideal.ofBits .f32 (BitVec.ofNat 32 n <<< 23)

/-- How many of the 256 values `pw 0, pw 1, …` are at most `x`. -/
def cnt (x : EReal) : BitVec 32 := Ideal.fptosi 32 (∑ k : Fin 256, if pw k.val ≤ x then (1 : EReal) else 0)

def expK (x : EReal) : BitVec 32 := if cnt x - 1#32 = 0#32 then 0#32 else cnt x - 1#32 - 126#32
def scaleK (x : EReal) : EReal := Ideal.ofBits .f32 ((expK x + 127#32) <<< 23)
def invK (x : EReal) : EReal := Ideal.ofBits .f32 ((127#32 - expK x) <<< 23)

def rpw (k : ℕ) : EReal := Ideal.exp2 ((((k : ℝ) - 128 : ℝ)) : EReal)
def scaleR (x : EReal) : EReal :=
  if x < Ideal.ofBits .f32 8388608#32 then 1 else if x < Ideal.ofBits .f32 2139095040#32 then
    Finset.fold min (Ideal.ofBits .f32 2139095040#32) (fun k : Fin 256 => if x < rpw k.val then rpw k.val else Ideal.ofBits .f32 2139095040#32) Finset.univ else 0
def invR (x : EReal) : EReal :=
  if x < Ideal.ofBits .f32 2122317824#32 then Ideal.div 1 (scaleR x) else if x < Ideal.ofBits .f32 2130706432#32 then 0
    else if x < Ideal.ofBits .f32 2139095040#32 then Ideal.ofBits .f32 4286578688#32 else Ideal.ofBits .f32 4278190080#32

theorem pw_mid (n : ℕ) (h0 : 1 ≤ n) (h1 : n ≤ 254) : pw n = (((2 : ℝ) ^ ((n : ℤ) - 127) : ℝ) : EReal) := by
  have key : ∀ n : Fin 255, (BitVec.ofNat 32 n.val <<< 23).extractLsb' 31 1 = 0#1
      ∧ ((BitVec.ofNat 32 n.val <<< 23).extractLsb' 23 8).toNat = n.val ∧ ((BitVec.ofNat 32 n.val <<< 23).extractLsb' 0 23).toNat = 0 := by
    decide +kernel
  obtain ⟨k1, k2, k3⟩ := key ⟨n, by omega⟩
  dsimp only at k1 k2 k3
  show Ideal.ieee 8 23 (BitVec.ofNat 32 n <<< 23) = _
  unfold Ideal.ieee
  dsimp only
  rw [k1, k2, k3, if_neg (by omega), if_neg (by omega)]
  refine congrArg _ ?_
  have : (n : ℤ) - (2 ^ (8 - 1) - 1) - (23 : ℕ) = ((n : ℤ) - 127) + (-23) := by norm_num; ring
  rw [this, zpow_add₀ (by norm_num)]
  norm_num
  ring_nf

theorem pw_zero : pw 0 = 0 := by
  show Ideal.ieee 8 23 (0#32 <<< 23) = _
  simp [Ideal.ieee]

theorem pw_top : pw 255 = ⊤ := by
  show Ideal.ieee 8 23 (255#32 <<< 23) = _
  simp [Ideal.ieee]

theorem pw_lt (n : ℕ) (h : n < 255) : pw n < pw (n + 1) := by
  rcases Nat.eq_zero_or_pos n with h0 | h0
  · subst h0
    rw [pw_zero, pw_mid 1 le_rfl (by omega)]
    exact_mod_cast (by positivity : (0 : ℝ) < 2 ^ (((1 : ℕ) : ℤ) - 127))
  · rcases Nat.lt_or_ge n 254 with h1 | h1
    · rw [pw_mid n h0 (by omega), pw_mid (n + 1) (by omega) (by omega), EReal.coe_lt_coe_iff]
      exact zpow_lt_zpow_right₀ (by norm_num) (by push_cast; omega)
    · have : n = 254 := by omega
      subst this
      rw [pw_top, pw_mid 254 (by omega) le_rfl]
      exact EReal.coe_lt_top _

theorem pw_mono {a b : ℕ} (h : a ≤ b) (hb : b ≤ 255) : pw a ≤ pw b := by
  induction b with
  | zero => rw [Nat.le_zero.mp h]
  | succ b ih =>
    rcases Nat.lt_or_ge a (b + 1) with h1 | h1
    · exact (ih (by omega) (by omega)).trans (pw_lt b (by omega)).le
    · rw [Nat.le_antisymm h h1]

/-- The bin of a nonnegative value. -/
theorem bin (x : EReal) (hx : 0 ≤ x) : ∃ n : ℕ, n ≤ 255 ∧ pw n ≤ x ∧ (n = 255 ∨ x < pw (n + 1)) := by
  classical
  refine ⟨Nat.findGreatest (fun n => pw n ≤ x) 255, Nat.findGreatest_le _, ?_, ?_⟩
  · exact Nat.findGreatest_spec (P := fun n => pw n ≤ x) (Nat.zero_le 255) (by show pw 0 ≤ x; rw [pw_zero]; exact hx)
  · by_cases h : Nat.findGreatest (fun n => pw n ≤ x) 255 = 255
    · exact Or.inl h
    · refine Or.inr (lt_of_not_ge ?_)
      exact Nat.findGreatest_is_greatest (P := fun n => pw n ≤ x) (Nat.lt_succ_self _)
        (Nat.succ_le_of_lt (lt_of_le_of_ne (Nat.findGreatest_le _) h))

theorem le_iff (x : EReal) (n : ℕ) (hn : n ≤ 255) (h1 : pw n ≤ x) (h2 : n = 255 ∨ x < pw (n + 1)) (j : ℕ) (hj : j ≤ 255) :
    pw j ≤ x ↔ j ≤ n := by
  refine ⟨fun h => ?_, fun h => (pw_mono h hn).trans h1⟩
  rcases h2 with h2 | h2
  · omega
  · by_contra hc
    exact absurd (h.trans_lt h2) (not_lt.mpr (pw_mono (by omega) hj))

theorem coe_sum (f : Fin 256 → ℝ) : ∑ k, ((f k : ℝ) : EReal) = ((∑ k, f k : ℝ) : EReal) := by
  classical
  have h : ∀ s : Finset (Fin 256), ∑ k ∈ s, ((f k : ℝ) : EReal) = ((∑ k ∈ s, f k : ℝ) : EReal) := fun s => by
    induction s using Finset.induction_on with
    | empty => simp
    | insert a s ha ih => rw [Finset.sum_insert ha, Finset.sum_insert ha, ih, EReal.coe_add]
  exact h _

theorem cnt_eq (x : EReal) (n : ℕ) (hn : n ≤ 255) (h1 : pw n ≤ x) (h2 : n = 255 ∨ x < pw (n + 1)) :
    cnt x = BitVec.ofNat 32 (n + 1) := by
  unfold cnt
  have e : (∑ k : Fin 256, if pw k.val ≤ x then (1 : EReal) else 0) = (((n + 1 : ℕ) : ℝ) : EReal) := by
    have e1 : ∀ k : Fin 256, (if pw k.val ≤ x then (1 : EReal) else 0) = (((if k.val ≤ n then 1 else 0 : ℕ) : ℝ) : EReal) := fun k => by
      by_cases h : k.val ≤ n
      · rw [if_pos ((le_iff x n hn h1 h2 _ (by omega)).mpr h), if_pos h]; norm_num
      · rw [if_neg (fun hh => h ((le_iff x n hn h1 h2 _ (by omega)).mp hh)), if_neg h]; norm_num
    rw [Finset.sum_congr rfl fun k _ => e1 k]
    have e2 : (∑ k : Fin 256, (if k.val ≤ n then 1 else 0 : ℕ)) = n + 1 := by
      rw [Fin.sum_univ_eq_sum_range (fun k => if k ≤ n then 1 else 0) 256, ← Finset.sum_filter, Finset.sum_const, smul_eq_mul, mul_one]
      have : (Finset.range 256).filter (fun k => k ≤ n) = Finset.range (n + 1) := by
        ext k; simp only [Finset.mem_filter, Finset.mem_range]; omega
      rw [this, Finset.card_range]
    rw [coe_sum, ← e2, Nat.cast_sum]
  rw [e]
  show BitVec.ofInt 32 (max _ (min _ (if (0 : ℝ) ≤ ((n + 1 : ℕ) : ℝ) then ⌊((n + 1 : ℕ) : ℝ)⌋ else ⌈((n + 1 : ℕ) : ℝ)⌉))) = _
  rw [if_pos (by positivity), Int.floor_natCast]
  have : max (-((2 ^ (32 - 1) : ℕ) : ℤ)) (min (((2 ^ (32 - 1) : ℕ) : ℤ) - 1) ((n + 1 : ℕ) : ℤ)) = ((n + 1 : ℕ) : ℤ) := by
    norm_num; omega
  rw [this]
  exact BitVec.ofInt_natCast 32 (n + 1)

theorem expK_eq (x : EReal) (n : ℕ) (hn : n ≤ 255) (h1 : pw n ≤ x) (h2 : n = 255 ∨ x < pw (n + 1)) :
    (expK x + 127#32) <<< 23 = (if n = 0 then 127#32 <<< 23 else BitVec.ofNat 32 (n + 1) <<< 23)
    ∧ (127#32 - expK x) <<< 23 = (if n = 0 then 127#32 <<< 23 else if n ≤ 253 then BitVec.ofNat 32 (253 - n) <<< 23
        else if n = 254 then 4286578688#32 else 4278190080#32) := by
  unfold expK
  rw [cnt_eq x n hn h1 h2]
  have key : ∀ n : Fin 256, ((if BitVec.ofNat 32 (n.val + 1) - 1#32 = 0#32 then 0#32 else BitVec.ofNat 32 (n.val + 1) - 1#32 - 126#32) + 127#32) <<< 23
      = (if n.val = 0 then 127#32 <<< 23 else BitVec.ofNat 32 (n.val + 1) <<< 23)
    ∧ (127#32 - (if BitVec.ofNat 32 (n.val + 1) - 1#32 = 0#32 then 0#32 else BitVec.ofNat 32 (n.val + 1) - 1#32 - 126#32)) <<< 23 = (if n.val = 0 then 127#32 <<< 23 else if n.val ≤ 253 then BitVec.ofNat 32 (253 - n.val) <<< 23
        else if n.val = 254 then 4286578688#32 else 4278190080#32) := by decide +kernel
  exact key ⟨n, by omega⟩

theorem pw_127 : pw 127 = 1 := by
  rw [pw_mid 127 (by omega) (by omega)]; norm_num

theorem rpw_mid (k : ℕ) (hk : 2 ≤ k) (h : k ≤ 255) : rpw k = pw (k - 1) := by
  rw [pw_mid (k - 1) (by omega) (by omega)]
  show ((Real.rpow 2 ((k : ℝ) - 128) : ℝ) : EReal) = _
  refine congrArg _ ?_
  have : ((k : ℝ) - 128) = ((((k - 1 : ℕ) : ℤ) - 127 : ℤ) : ℝ) := by
    push_cast [Nat.cast_sub (show 1 ≤ k by omega)]; ring
  rw [this]
  exact Real.rpow_intCast 2 _

theorem rpw_small (k : ℕ) (hk : k < 2) : rpw k ≤ pw 1 := by
  rw [← rpw_mid 2 le_rfl (by omega)]
  show ((Real.rpow 2 ((k : ℝ) - 128) : ℝ) : EReal) ≤ ((Real.rpow 2 (((2 : ℕ) : ℝ) - 128) : ℝ) : EReal)
  rw [EReal.coe_le_coe_iff]
  refine Real.rpow_le_rpow_of_exponent_le (by norm_num) ?_
  have : (k : ℝ) ≤ 2 := by exact_mod_cast hk.le
  push_cast; linarith

theorem c1 : Ideal.ofBits .f32 8388608#32 = pw 1 := rfl
theorem c253 : Ideal.ofBits .f32 2122317824#32 = pw 253 := rfl
theorem c254 : Ideal.ofBits .f32 2130706432#32 = pw 254 := rfl
theorem c255 : Ideal.ofBits .f32 2139095040#32 = pw 255 := rfl

theorem scale_neg : pw 256 = 0 := by
  show Ideal.ieee 8 23 (256#32 <<< 23) = _
  simp [Ideal.ieee]

theorem fold_mid (x : EReal) (n : ℕ) (h0 : 1 ≤ n) (hn : n ≤ 254) (h1 : pw n ≤ x) (h2 : x < pw (n + 1)) :
    Finset.fold min (pw 255) (fun k : Fin 256 => if x < rpw k.val then rpw k.val else pw 255) Finset.univ = pw (n + 1) := by
  refine le_antisymm ?_ ?_
  · rw [Finset.fold_min_le]
    rcases Nat.lt_or_ge n 254 with h | h
    · refine Or.inr ⟨⟨n + 2, by omega⟩, Finset.mem_univ _, ?_⟩
      have e : rpw (n + 2) = pw (n + 1) := rpw_mid (n + 2) (by omega) (by omega)
      dsimp only
      rw [e, if_pos h2]
    · refine Or.inl ?_
      rw [show n + 1 = 255 by omega]
  · rw [Finset.le_fold_min]
    refine ⟨pw_mono (by omega) le_rfl, fun k _ => ?_⟩
    split
    · rename_i hk
      rcases Nat.lt_or_ge k.val 2 with hs | hs
      · exact absurd (hk.trans_le ((rpw_small _ hs).trans ((pw_mono h0 (by omega)).trans h1))) (lt_irrefl _)
      · rw [rpw_mid _ hs (by omega)] at hk ⊢
        refine pw_mono ?_ (by omega)
        by_contra hc
        exact absurd (hk.trans_le ((pw_mono (by omega) (by omega)).trans h1)) (lt_irrefl _)
    · exact pw_mono (by omega) le_rfl

theorem lt_pw (x : EReal) (n : ℕ) (hn : n ≤ 255) (h1 : pw n ≤ x) (h2 : n = 255 ∨ x < pw (n + 1)) (j : ℕ) (hj : j ≤ 255) :
    x < pw j ↔ n < j := by
  rw [← not_le, le_iff x n hn h1 h2 j hj, not_le]

theorem scaleR_eq (x : EReal) (n : ℕ) (hn : n ≤ 255) (h1 : pw n ≤ x) (h2 : n = 255 ∨ x < pw (n + 1)) :
    scaleR x = if n = 0 then 1 else pw (n + 1) := by
  unfold scaleR
  rw [c1, c255]
  by_cases h0 : n = 0
  · rw [if_pos ((lt_pw x n hn h1 h2 1 (by omega)).mpr (by omega)), if_pos h0]
  · rw [if_neg (fun h => h0 (by have := (lt_pw x n hn h1 h2 1 (by omega)).mp h; omega)), if_neg h0]
    by_cases h : n = 255
    · rw [if_neg (fun hh => by have := (lt_pw x n hn h1 h2 255 (by omega)).mp hh; omega), h, scale_neg]
    · rw [if_pos ((lt_pw x n hn h1 h2 255 (by omega)).mpr (by omega))]
      exact fold_mid x n (by omega) (by omega) h1 (h2.resolve_left h)

theorem scale_eq (x : EReal) (hx : 0 ≤ x) : scaleK x = scaleR x := by
  obtain ⟨n, hn, h1, h2⟩ := bin x hx
  rw [scaleR_eq x n hn h1 h2]
  unfold scaleK
  rw [(expK_eq x n hn h1 h2).1]
  split
  · exact pw_127
  · rfl

theorem inv_eq (x : EReal) (hx : 0 ≤ x) : invK x = invR x := by
  obtain ⟨n, hn, h1, h2⟩ := bin x hx
  unfold invK invR
  rw [(expK_eq x n hn h1 h2).2, scaleR_eq x n hn h1 h2, c253, c254, c255]
  have L := lt_pw x n hn h1 h2
  by_cases h0 : n = 0
  · rw [if_pos h0, if_pos h0, if_pos ((L 253 (by omega)).mpr (by omega))]
    refine Eq.trans pw_127 ?_
    unfold Ideal.div
    rw [if_neg one_ne_zero, inv_one, mul_one]
  rw [if_neg h0, if_neg h0]
  by_cases h3 : n ≤ 252
  · rw [if_pos (by omega), if_pos ((L 253 (by omega)).mpr (by omega))]
    show pw (253 - n) = _
    rw [pw_mid (253 - n) (by omega) (by omega), pw_mid (n + 1) (by omega) (by omega)]
    unfold Ideal.div
    rw [if_neg (by
      rw [← EReal.coe_zero, EReal.coe_eq_coe_iff]
      positivity), one_mul, ← EReal.coe_inv, ← zpow_neg]
    congr 3
    omega
  have x3 : ¬ x < pw 253 := fun h => by have := (L 253 (by omega)).mp h; omega
  rw [if_neg x3]
  by_cases h4 : n = 253
  · subst h4
    rw [if_pos (by omega : 253 ≤ 253), if_pos ((L 254 (by omega)).mpr (by omega))]
    exact pw_zero
  have n3 : ¬ n ≤ 253 := by omega
  have x4 : ¬ x < pw 254 := fun h => by have := (L 254 (by omega)).mp h; omega
  rw [if_neg n3, if_neg x4]
  by_cases h5 : n = 254
  · rw [if_pos h5, if_pos ((L 255 (by omega)).mpr (by omega))]
  · have x5 : ¬ x < pw 255 := fun h => by have := (L 255 (by omega)).mp h; omega
    rw [if_neg h5, if_neg x5]

/-- The largest magnitude of a row of 1536, over 127 (as the nearest single-precision reciprocal). -/
def xOf (f : Fin 1536 → EReal) : EReal :=
  Finset.fold max (Ideal.ofBits .f32 4286578688#32) (fun k => FloatOps.absf (F := Ideal) (φ := .f32) (f k)) Finset.univ
    * Ideal.ofBits .f32 1006699012#32

/-- The code of `a` at inverse scale `v`: the nearest integer of the product, kept within `±127`. -/
def codeOf (a v : EReal) : BitVec 8 :=
  FloatOps.fptosi (F := Ideal) (φ := .f32) 8 (min (Ideal.ofBits .f32 1123942400#32)
    (max (Ideal.ofBits .f32 3271426048#32) (Ideal.liftRound Ideal.roundHalfEven (a * v))))

theorem abs_nonneg' (x : EReal) : 0 ≤ FloatOps.absf (F := Ideal) (φ := .f32) x := by
  show (0 : EReal) ≤ max x (-x)
  rcases le_total 0 x with h | h
  · exact le_max_of_le_left h
  · refine le_max_of_le_right ?_
    rw [← neg_zero]
    exact EReal.neg_le_neg_iff.mpr h

theorem c127_nonneg : (0 : EReal) ≤ Ideal.ofBits .f32 1006699012#32 := by
  show (0 : EReal) ≤ Ideal.ieee 8 23 1006699012#32
  unfold Ideal.ieee
  have e1 : ((1006699012#32 : BitVec 32).extractLsb' 31 1 == 1#1) = false := by decide +kernel
  have e2 : ((1006699012#32 : BitVec 32).extractLsb' 23 8).toNat = 120 := by decide +kernel
  dsimp only
  rw [e1, e2, if_neg (by omega), if_neg (by omega)]
  refine EReal.coe_nonneg.mpr ?_
  rw [if_neg (by decide)]
  positivity

theorem xOf_nonneg (f : Fin 1536 → EReal) : 0 ≤ xOf f := by
  refine mul_nonneg ?_ c127_nonneg
  refine (abs_nonneg' (f 0)).trans ?_
  exact Finset.le_fold_max _ |>.mpr (Or.inr ⟨0, Finset.mem_univ _, le_rfl⟩)

end Cert.Proof.De
end
-- ==== Proof.DeBlockQuant.lean ====
/-
  A step's quantiser read at an index, over the extended reals.
-/
module

public import proofs.«01_k».proof.Proof.Gen.KernelDeIdeal.Skeleton
public import proofs.«01_k».proof.Proof.DeQuant

@[expose] public section

noncomputable section

open Idealize.ShloMosaic Idealize.ShloMosaic.TcCoe Idealize.SL.Sem
open scoped BigOperators

namespace Cert.Proof.De

open Cert.KernelDeIdeal Cert.KernelDeIdeal.Gen

variable {F : FTy → Type} [FloatOps F]

/-- The largest magnitude of each row over 127. -/
def xcol (w : FVec F S256x1536 .f32) : FVec F S256x1 .f32 :=
  mulf (shapeCast S256x1 (multiReduction .maximumf [1] S256 (absf w) 0xFF800000#32 reduces_S256x1536_S256 (.inl rfl) rfl) shapeCasts_S256_S256x1)
    (broadcast S256x1 (Scalar.ofBits .f32 0x3C010204#32))

/-- Which of the 256 powers of two are at most `x`. -/
def marks (x : FVec F S256x1 .f32) : FVec F S256x256 .f32 :=
  select (cmpf .oge (broadcastTo S256x256 x broadcasts_S256x1_S256x256)
      (bitcastToFloat .f32 (shli (iota .tc S256x256 32 [1] iota_S256x256_d1_w32) (broadcast S256x256 23#32))))
    (broadcast S256x256 (Scalar.ofBits .f32 0x3F800000#32)) (broadcast S256x256 (Scalar.ofBits .f32 0x00000000#32))

/-- How many of the 256 powers of two are at most `x`. -/
def counts (x : FVec F S256x1 .f32) : IVec S256x1 32 :=
  fptosi 32 (shapeCast S256x1 (multiReduction (φ := .f32) .add [1] S256 (marks x)
    0x00000000#32 reduces_S256x256_S256 (.inl rfl) rfl) shapeCasts_S256_S256x1)

/-- The exponents, of the counts. -/
def expos (n : IVec S256x1 32) : IVec S256x1 32 :=
  select (cmpi .eq (subi n (broadcast S256x1 1#32)) (broadcast S256x1 0#32)) (broadcast S256x1 0#32)
    (subi (subi n (broadcast S256x1 1#32)) (broadcast S256x1 126#32))

theorem pay15_eq (a b : FVec F S256x1536 .f32) (v105 : FVec F S256x1 .f32) (v106 : Vec F S256x1536 .i8) (v110 : Elt F .f32) :
    k0_pay15 a b v105 v106 v110 = expos (counts (xcol (k0_pay14 a b v105 v106 v110))) := rfl

theorem red_apply (w : FVec Ideal S256x1536 .f32) (r : Fin 256) :
    multiReduction (φ := .f32) .maximumf [1] S256 w 0xFF800000#32 reduces_S256x1536_S256 (.inl rfl) rfl (ix1 r)
      = Finset.fold max (Ideal.ofBits .f32 4286578688#32) (fun k : Fin 1536 => w (ix2 r k)) Finset.univ := by
  simp only [pointwise]

theorem cast_apply {α : Type} (v : S256.Idx → α) (r : Fin 256) : shapeCast S256x1 v shapeCasts_S256_S256x1 (ix2 r 0) = v (ix1 r) := by
  simp only [pointwise]

theorem scaled_apply (v : FVec Ideal S256x1 .f32) (r : Fin 256) :
    mulf v (broadcast S256x1 (Scalar.ofBits .f32 0x3C010204#32)) (ix2 r 0) = v (ix2 r 0) * Ideal.ofBits .f32 1006699012#32 := by
  simp only [pointwise]

theorem xcol_apply (w : FVec Ideal S256x1536 .f32) (r : Fin 256) : xcol w (ix2 r 0) = xOf (fun k => w (ix2 r k)) := by
  unfold xcol xOf
  rw [scaled_apply, cast_apply, red_apply]
  simp only [pointwise]

theorem marks_apply (x : FVec Ideal S256x1 .f32) (r k : Fin 256) :
    marks x (ix2 r k) = if pw k.val ≤ x (ix2 r 0) then (1 : EReal) else 0 := by
  simp only [marks, pointwise]
  have e : List.foldl (fun n a => n * (![256, 256] : Fin 2 → ℕ) a + ((ix2 r k : S256x256.Idx) a).val) 0 [1] = k.val := by
    show 0 * 256 + k.val = k.val
    omega
  have e' : Ideal.ofBits .f32 (IntOp.shli ArithUnit.vector (BitVec.ofNat 32 k.val) 23#32) = pw k.val := rfl
  exact congrArg (fun n => if Ideal.ofBits .f32 (IntOp.shli ArithUnit.vector (BitVec.ofNat 32 n) 23#32) ≤ x (ix2 r 0) then (1 : EReal) else 0) e

theorem counts_apply (x : FVec Ideal S256x1 .f32) (r : Fin 256) : counts x (ix2 r 0) = cnt (x (ix2 r 0)) := by
  unfold cnt
  refine congrArg (Ideal.fptosi 32) ?_
  rw [cast_apply]
  simp only [pointwise]
  exact Finset.sum_congr rfl fun k _ => marks_apply x r k

theorem expo_eq (a : BitVec 32) : Scalar.select (IntOp.cmpi .eq a 0#32) 0#32 (a - 126#32) = if a = 0#32 then 0#32 else a - 126#32 := by
  by_cases h : a = 0#32
  · subst h; rfl
  · have hb : (a == 0#32) = false := by simpa using h
    show Scalar.select (BitVec.ofBool (a == 0#32)) _ _ = _
    rw [hb, if_neg h]
    rfl

theorem expos_apply (x : FVec Ideal S256x1 .f32) (r : Fin 256) : expos (counts x) (ix2 r 0) = expK (x (ix2 r 0)) := by
  unfold expK
  rw [← counts_apply]
  generalize counts x = n
  simp only [expos, pointwise]
  exact expo_eq (n (ix2 r 0) - 1#32)

theorem pay16_apply (a b : FVec Ideal S256x1536 .f32) (v105 : FVec Ideal S256x1 .f32) (v106 : Vec Ideal S256x1536 .i8) (v110 : Elt Ideal .f32) (r : Fin 256) :
    k0_pay16 a b v105 v106 v110 (ix2 r 0) = scaleK (xOf fun k => k0_pay14 a b v105 v106 v110 (ix2 r k)) := by
  unfold scaleK
  rw [← xcol_apply, ← expos_apply, ← pay15_eq]
  rfl

theorem pay17_apply (a b : FVec Ideal S256x1536 .f32) (v105 : FVec Ideal S256x1 .f32) (v106 : Vec Ideal S256x1536 .i8) (v110 : Elt Ideal .f32) (r : Fin 256) :
    k0_pay17 a b v105 v106 v110 (ix2 r 0) = invK (xOf fun k => k0_pay14 a b v105 v106 v110 (ix2 r k)) := by
  unfold invK
  rw [← xcol_apply, ← expos_apply, ← pay15_eq]
  rfl

theorem pay1_apply (w : FVec Ideal S256x1536 .f32) (v : FVec Ideal S256x1 .f32) (r : Fin 256) (q : Fin 1536) :
    k0_pay1 w v (ix2 r q) = codeOf (w (ix2 r q)) (v (ix2 r 0)) := by
  simp only [k0_pay1, pointwise]
  rfl

theorem pay2_apply (v : FVec Ideal S256x1 .f32) (r : Fin 256) : k0_pay2 v (ix3 0 0 r) = v (ix2 r 0) := by
  simp only [k0_pay2, pointwise]
  refine congrArg (fun z => v (ix2 z 0)) (Fin.ext ?_)
  show 0 + r.val = r.val
  omega

end Cert.Proof.De
end
-- ==== Proof.DeBlockValue.lean ====
/-
  A step's block of new weights read at an index, over the extended reals.
-/
module

public import proofs.«01_k».proof.Proof.DeBlock
public import proofs.«01_k».proof.Proof.DeBlockQuant
public import Idealize.ShloMosaic.Lib.Pipeline.ValueKit.Tiles

@[expose] public section

noncomputable section

open Idealize.ShloMosaic Idealize.ShloMosaic.TcCoe Idealize.SL.Sem
open scoped BigOperators

namespace Cert.Proof.De

open Cert.KernelDeIdeal Cert.KernelDeIdeal.Gen

theorem lane_val (t : Fin 128) (n : Fin 2) :
    (Scalar.select (IntOp.cmpi .slt (Scalar.addi (lane0 t.val) (BitVec.ofNat 32 n.val)) 0#32)
      (IntOp.addi (Scalar.addi (lane0 t.val) (BitVec.ofNat 32 n.val)) 128#32)
      (Scalar.addi (lane0 t.val) (BitVec.ofNat 32 n.val))).toNat % 128 = 2 * t.val % 128 + n.val := by
  revert t n; decide +kernel

theorem off1_val (i : grid0.Coords) : k0_off1 i = ![0, 128 * ((i 0).val / 64)] := by
  have h : ∀ t : Fin 128,
      (Scalar.indexCast
        (Scalar.muli
          (Scalar.select
            (Scalar.andi
              (Scalar.cmpi CmpIPredicate.ne
                (Scalar.subi
                  (Scalar.extui (Scalar.cmpi CmpIPredicate.sgt (Scalar.muli (BitVec.ofNat 32 t.val) 2#32) 0#32))
                  (Scalar.extui (Scalar.cmpi CmpIPredicate.slt (Scalar.muli (BitVec.ofNat 32 t.val) 2#32) 0#32)))
                (Scalar.subi (Scalar.extui (Scalar.cmpi CmpIPredicate.sgt 128#32 0#32))
                  (Scalar.extui (Scalar.cmpi CmpIPredicate.slt 128#32 0#32))))
              (Scalar.cmpi CmpIPredicate.ne (Scalar.remsi (Scalar.muli (BitVec.ofNat 32 t.val) 2#32) 128#32) 0#32))
            (Scalar.subi (Scalar.divsi (Scalar.muli (BitVec.ofNat 32 t.val) 2#32) 128#32) 1#32)
            (Scalar.divsi (Scalar.muli (BitVec.ofNat 32 t.val) 2#32) 128#32))
          128#32)).toNat = 128 * (t.val / 64) := by decide +kernel
  funext a
  match a with
  | ⟨0, _⟩ => rfl
  | ⟨1, _⟩ => exact h (i 0)

theorem dlPiece_apply (lane : BitVec 32) (g : FVec Ideal S8192x128 .f32) (v : Vec Ideal S8192x128 .fp8e5m2)
    (r : Fin 8192) (q p : Fin 128)
    (hp : (Scalar.select (IntOp.cmpi .slt lane 0#32) (IntOp.addi lane 128#32) lane).toNat % 128 = p.val) :
    dlPiece lane g v (ix2 r q) = v (ix2 r q) * g (ix2 r p) := by
  simp only [dlPiece, pointwise]
  exact congrArg (fun z => v (ix2 r q) * g z) (congrArg (ix2 r) (Fin.ext hp))

/-- Column `k` of the step's `DL` is column `k % 128` of its piece `k / 128`. -/
theorem dlBlk_apply (i : grid0.Coords) (x0 : Vec Ideal S8192x256 .fp8e5m2) (x1 : Vec Ideal S8192x256 .f32)
    (r : Fin 8192) (k : Fin 256) :
    dlBlk i x0 x1 (ix2 r k)
      = x0 (ix2 r k) * x1 (ix2 r ⟨2 * (i 0).val + k.val / 128, by have := (i 0).isLt; have : (i 0).val < 128 := this; omega⟩) := by
  have ht : (i 0).val < 128 := (i 0).isLt
  have hk := k.isLt
  refine (concatenate_ofFn_apply (t := S8192x256) (s₁ := S8192x128) 1 (fun n : Fin 2 => dlPiece (Scalar.addi (lane0 (i 0).val) (BitVec.ofNat 32 n.val)) (slab i x1)
      (View.ld x0 (Rect.unit (s := S8192x256) ![0, 128 * n.val] S8192x128.size (inbL n)))) _ rfl 128 rfl (ix2 r k)
    ⟨k.val / 128, by omega⟩ rfl (ix2 r ⟨k.val % 128, by omega⟩) rfl ?_).trans ?_
  · intro b hb
    match b with
    | ⟨0, _⟩ => rfl
    | ⟨1, _⟩ => exact absurd rfl hb
  · have hp := lane_val ⟨(i 0).val, ht⟩ ⟨k.val / 128, by omega⟩
    rw [dlPiece_apply _ _ _ r _ ⟨2 * (i 0).val % 128 + k.val / 128, by omega⟩ hp]
    refine congrArg₂ (· * ·) ?_ ?_
    · refine View.ld_unit_apply_of _ _ _ _ _ _ ?_
      intro a
      match a with
      | ⟨0, _⟩ => exact (Nat.zero_add _).symm
      | ⟨1, _⟩ => show k.val = 128 * (k.val / 128) + k.val % 128; omega
    · unfold slab k0_pay3
      rw [shapeCast_self]
      refine View.ld_unit_apply_of _ _ _ _ _ _ ?_
      intro a
      refine Eq.trans ?_ (congrArg (· + _) (congrFun (off1_val i).symm a))
      match a with
      | ⟨0, _⟩ => exact (Nat.zero_add _).symm
      | ⟨1, _⟩ =>
        show 2 * (i 0).val + k.val / 128 = 128 * ((i 0).val / 64) + (2 * (i 0).val % 128 + k.val / 128); omega

theorem deBlk_apply (x2 : Vec Ideal S1536x8192 .bf16) (dl : FVec Ideal S8192x256 .bf16) (r : Fin 256) (q : Fin 1536) :
    deBlk x2 dl (ix2 r q) = ∑ k : Fin 8192, x2 (ix2 q k) * dl (ix2 k r) := by
  simp only [deBlk, pointwise]
  rw [zero_add]

theorem pay8_apply (v : Vec Ideal S1x256x128 .f32) (r : Fin 256) (q : Fin 128) : k0_pay8 v (ix2 r q) = v (ix3 0 r q) := by
  simp only [k0_pay8, pointwise]

/-- Column `q` of the step's scattered gradient is column `q % 128` of slab `q / 128`. -/
theorem scBlk_apply (x5 : Vec Ideal S12x256x128 .f32) (r : Fin 256) (q : Fin 1536) :
    scBlk x5 (ix2 r q) = x5 (ix3 ⟨q.val / 128, by omega⟩ r ⟨q.val % 128, by omega⟩) := by
  have hq := q.isLt
  refine (concatenate_ofFn_apply (t := S256x1536) (s₁ := S256x128) 1 (fun n : Fin 12 => k0_pay8 (View.ld x5 (Rect.unit (s := S12x256x128) ![n.val, 0, 0] S1x256x128.size (inbC n))))
    _ rfl 128 rfl (ix2 r q) ⟨q.val / 128, by omega⟩ rfl (ix2 r ⟨q.val % 128, by omega⟩) rfl ?_).trans ?_
  · intro b hb
    match b with
    | ⟨0, _⟩ => rfl
    | ⟨1, _⟩ => exact absurd rfl hb
  · rw [pay8_apply]
    refine View.ld_unit_apply_of _ _ _ _ _ _ ?_
    intro a
    match a with
    | ⟨0, _⟩ => rfl
    | ⟨1, _⟩ => exact (Nat.zero_add _).symm
    | ⟨2, _⟩ => exact (Nat.zero_add _).symm

theorem esPiece_apply (v : Vec Ideal S1x1x128 .f32) (r : Fin 128) : esPiece v (ix2 r 0) = v (ix3 0 0 r) := by
  simp only [esPiece, pointwise]
  refine congrArg (fun z => v (ix3 0 0 z)) (Fin.ext ?_)
  show 0 + r.val = r.val
  omega

/-- Row `r` of the step's old scales is row `r % 128` of its piece `r / 128`. -/
theorem esBlk_apply (x4 : Vec Ideal S1x1x256 .f32) (r : Fin 256) : esBlk x4 (ix2 r 0) = x4 (ix3 0 0 r) := by
  have hr := r.isLt
  refine (concatenate_ofFn_apply (t := S256x1) (s₁ := S128x1) 0 (fun n : Fin 2 => esPiece (View.ld x4 (Rect.unit (s := S1x1x256) ![0, 0, 128 * n.val] S1x1x128.size (inbS n))))
    _ rfl 128 rfl (ix2 r 0) ⟨r.val / 128, by omega⟩ rfl (ix2 ⟨r.val % 128, by omega⟩ 0) rfl ?_).trans ?_
  · intro b hb
    match b with
    | ⟨0, _⟩ => exact absurd rfl hb
    | ⟨1, _⟩ => rfl
  · rw [esPiece_apply]
    refine View.ld_unit_apply_of _ _ _ _ _ _ ?_
    intro a
    match a with
    | ⟨0, _⟩ => rfl
    | ⟨1, _⟩ => rfl
    | ⟨2, _⟩ => show r.val = 128 * (r.val / 128) + r.val % 128; omega

theorem pay14_apply (a b : FVec Ideal S256x1536 .f32) (s : FVec Ideal S256x1 .f32) (e : Vec Ideal S256x1536 .i8) (lr : Elt Ideal .f32)
    (r : Fin 256) (q : Fin 1536) :
    k0_pay14 a b s e lr (ix2 r q) = FloatOps.sitofp (F := Ideal) .f32 (e (ix2 r q)) * s (ix2 r 0) - lr * (a (ix2 r q) + b (ix2 r q)) := by
  simp only [k0_pay14, pointwise]
  rfl

/-- The step's new weight at row `r`, column `q`. -/
def wOf (t : Fin 128) (x0 : Vec Ideal S8192x256 .fp8e5m2) (x1 : Vec Ideal S8192x256 .f32) (x2 : Vec Ideal S1536x8192 .bf16)
    (x3 : Vec Ideal S256x1536 .i8) (x4 : Vec Ideal S1x1x256 .f32) (x5 : Vec Ideal S12x256x128 .f32) (lr : EReal)
    (r : Fin 256) (q : Fin 1536) : EReal :=
  FloatOps.sitofp (F := Ideal) .f32 (x3 (ix2 r q)) * x4 (ix3 0 0 r)
    - lr * (∑ k : Fin 8192, x2 (ix2 q k) * (x0 (ix2 k r) * x1 (ix2 k ⟨2 * t.val + r.val / 128, by omega⟩))
      + x5 (ix3 ⟨q.val / 128, by omega⟩ r ⟨q.val % 128, by omega⟩))

theorem w_apply (i : grid0.Coords) (x0 : Vec Ideal S8192x256 .fp8e5m2) (x1 : Vec Ideal S8192x256 .f32) (x2 : Vec Ideal S1536x8192 .bf16)
    (x3 : Vec Ideal S256x1536 .i8) (x4 : Vec Ideal S1x1x256 .f32) (x5 : Vec Ideal S12x256x128 .f32) (lr : Elt Ideal .f32)
    (r : Fin 256) (q : Fin 1536) :
    k0_pay14 (deBlk x2 (dlBlk i x0 x1)) (scBlk x5) (esBlk x4) x3 lr (ix2 r q) = wOf (i 0) x0 x1 x2 x3 x4 x5 lr r q := by
  rw [pay14_apply, deBlk_apply, scBlk_apply, esBlk_apply]
  have e : (∑ k : Fin 8192, x2 (ix2 q k) * dlBlk i x0 x1 (ix2 k r) : EReal)
      = ∑ k : Fin 8192, x2 (ix2 q k) * (x0 (ix2 k r) * x1 (ix2 k ⟨2 * (i 0).val + r.val / 128, by have : (i 0).val < 128 := (i 0).isLt; omega⟩)) :=
    Finset.sum_congr rfl fun k _ => by rw [dlBlk_apply]
  rw [e]
  rfl

theorem codesBlk_apply (i : grid0.Coords) (x0 : Vec Ideal S8192x256 .fp8e5m2) (x1 : Vec Ideal S8192x256 .f32) (x2 : Vec Ideal S1536x8192 .bf16)
    (x3 : Vec Ideal S256x1536 .i8) (x4 : Vec Ideal S1x1x256 .f32) (x5 : Vec Ideal S12x256x128 .f32) (lr : Elt Ideal .f32)
    (r : Fin 256) (q : Fin 1536) :
    codesBlk i x0 x1 x2 x3 x4 x5 lr (ix2 r q)
      = codeOf (wOf (i 0) x0 x1 x2 x3 x4 x5 lr r q) (invR (xOf fun k => wOf (i 0) x0 x1 x2 x3 x4 x5 lr r k)) := by
  unfold codesBlk
  rw [pay1_apply, pay17_apply, w_apply, inv_eq _ (xOf_nonneg _)]
  refine congrArg (fun f => codeOf _ (invR (xOf f))) (funext fun k => ?_)
  exact w_apply ..

theorem scalesBlk_apply (i : grid0.Coords) (x0 : Vec Ideal S8192x256 .fp8e5m2) (x1 : Vec Ideal S8192x256 .f32) (x2 : Vec Ideal S1536x8192 .bf16)
    (x3 : Vec Ideal S256x1536 .i8) (x4 : Vec Ideal S1x1x256 .f32) (x5 : Vec Ideal S12x256x128 .f32) (lr : Elt Ideal .f32)
    (r : Fin 256) :
    scalesBlk i x0 x1 x2 x3 x4 x5 lr (ix3 0 0 r) = scaleR (xOf fun k => wOf (i 0) x0 x1 x2 x3 x4 x5 lr r k) := by
  unfold scalesBlk
  rw [pay2_apply, pay16_apply, scale_eq _ (xOf_nonneg _)]
  refine congrArg (fun f => scaleR (xOf f)) (funext fun k => ?_)
  exact w_apply ..

end Cert.Proof.De
end
-- ==== Proof.DeRefValue.lean ====
/-
  The reference's quantiser and its new weights read at an index, over the extended reals.
-/
module

public import proofs.«01_k».proof.Proof.Gen.ReferenceDeIdeal.Skeleton
public import proofs.«01_k».proof.Proof.DeQuant

@[expose] public section

noncomputable section

open Idealize.ShloMosaic Idealize.ShloMosaic.TcCoe Idealize.SL.Sem
open scoped BigOperators

namespace Cert.Proof.DeRef

open Cert.ReferenceDeIdeal Cert.ReferenceDeIdeal.Gen Cert.Proof.De

/-- The largest magnitude of each row over 127. -/
def xcol {F : FTy → Type} [FloatOps F] (w : FVec F S32768x1536 .f32) : FVec F S32768x1 .f32 :=
  mulf (shapeCast S32768x1 (multiReduction .maximumf [1] S32768 (absf w) 0xFF800000#32 reduces_S32768x1536_S32768 (.inl rfl) rfl) shapeCasts_S32768_S32768x1)
    (broadcast S32768x1 (Scalar.ofBits .f32 0x3C010204#32))

/-- Which powers of two are above `x`. -/
def above {F : FTy → Type} [FloatOps F] (x : FVec F S32768x1 .f32) : IVec S32768x256 1 :=
  cmpf .ogt (k0_pay6 (F := F)) (broadcastTo S32768x256 x broadcasts_S32768x1_S32768x256)

theorem red_apply (w : FVec Ideal S32768x1536 .f32) (r : Fin 32768) :
    multiReduction (φ := .f32) .maximumf [1] S32768 w 0xFF800000#32 reduces_S32768x1536_S32768 (.inl rfl) rfl (ix1 r)
      = Finset.fold max (Ideal.ofBits .f32 4286578688#32) (fun k : Fin 1536 => w (ix2 r k)) Finset.univ := by
  simp only [pointwise]

theorem cast_apply {α : Type} (v : S32768.Idx → α) (r : Fin 32768) : shapeCast S32768x1 v shapeCasts_S32768_S32768x1 (ix2 r 0) = v (ix1 r) := by
  simp only [pointwise]

theorem scaled_apply (v : FVec Ideal S32768x1 .f32) (r : Fin 32768) :
    mulf v (broadcast S32768x1 (Scalar.ofBits .f32 0x3C010204#32)) (ix2 r 0) = v (ix2 r 0) * Ideal.ofBits .f32 1006699012#32 := by
  simp only [pointwise]

theorem xcol_apply (w : FVec Ideal S32768x1536 .f32) (r : Fin 32768) : xcol w (ix2 r 0) = xOf (fun k => w (ix2 r k)) := by
  unfold xcol xOf
  rw [scaled_apply, cast_apply, red_apply]
  simp only [pointwise]

theorem pay8_apply (r : Fin 32768) (k : Fin 256) : k0_pay8 (F := Ideal) (ix2 r k) = Ideal.ofBits .f32 2139095040#32 := by
  simp only [k0_pay8, pointwise]

theorem c128 : Ideal.ofBits .f32 1124073472#32 = ((128 : ℝ) : EReal) := by
  show pw 134 = _
  rw [pw_mid 134 (by omega) (by omega)]
  norm_num

theorem pay6_apply (r : Fin 32768) (k : Fin 256) : k0_pay6 (F := Ideal) (ix2 r k) = rpw k.val := by
  simp only [k0_pay6, pointwise]
  have e : List.foldl (fun n a => n * (![32768, 256] : Fin 2 → ℕ) a + ((ix2 r k : S32768x256.Idx) a).val) 0 [1] = k.val := by
    show 0 * 256 + k.val = k.val
    omega
  unfold rpw
  refine congrArg Ideal.exp2 ?_
  rw [c128]
  refine (congrArg (fun n => (((BitVec.ofNat 32 n).toInt : ℝ) : EReal) - ((128 : ℝ) : EReal)) e).trans ?_
  have e2 : (BitVec.ofNat 32 k.val).toInt = (k.val : ℤ) := by
    have : ∀ k : Fin 256, (BitVec.ofNat 32 k.val).toInt = (k.val : ℤ) := by decide +kernel
    exact this k
  rw [e2, ← EReal.coe_sub]
  norm_cast

theorem pay1_apply (x : FVec Ideal S32768x1 .f32) (r : Fin 32768) :
    k0_pay1 x (k0_pay6 (F := Ideal)) (above x) (k0_pay8 (F := Ideal)) (ix2 r 0) = scaleR (x (ix2 r 0)) := by
  have h : ∀ k : Fin 256, Scalar.select (above x (ix2 r k)) (k0_pay6 (F := Ideal) (ix2 r k)) (k0_pay8 (F := Ideal) (ix2 r k))
      = if x (ix2 r 0) < rpw k.val then rpw k.val else Ideal.ofBits .f32 2139095040#32 := fun k => by
    have ha : above x (ix2 r k) = BitVec.ofBool (decide (x (ix2 r 0) < rpw k.val)) := by
      rw [← pay6_apply r k]
      simp only [above, pointwise]
      rfl
    rw [ha, pay8_apply, pay6_apply]
    by_cases hx : x (ix2 r 0) < rpw k.val
    · rw [if_pos hx, decide_eq_true hx]; rfl
    · rw [if_neg hx, decide_eq_false hx]; rfl
  unfold scaleR
  rw [← funext h]
  generalize above x = m
  generalize k0_pay6 (F := Ideal) = p
  generalize k0_pay8 (F := Ideal) = i
  simp only [k0_pay1, pointwise]

theorem pay2_apply (w : FVec Ideal S32768x1536 .f32) (x : FVec Ideal S32768x1 .f32) (r : Fin 32768) (q : Fin 1536) :
    k0_pay2 w x (k0_pay6 (F := Ideal)) (above x) (k0_pay8 (F := Ideal)) (ix2 r q) = codeOf (w (ix2 r q)) (invR (x (ix2 r 0))) := by
  unfold invR
  rw [← pay1_apply]
  generalize above x = m
  generalize k0_pay6 (F := Ideal) = p
  generalize k0_pay8 (F := Ideal) = i
  simp only [k0_pay2, pointwise]
  rfl

theorem pay3_apply (x : FVec Ideal S32768x1 .f32) (a : Fin 128) (b : Fin 256) :
    k0_pay3 x (k0_pay6 (F := Ideal)) (above x) (k0_pay8 (F := Ideal)) (ix3 a 0 b)
      = scaleR (x (ix2 ⟨256 * a.val + b.val, by omega⟩ 0)) := by
  rw [← pay1_apply]
  unfold k0_pay3
  generalize k0_pay1 x (k0_pay6 (F := Ideal)) (above x) (k0_pay8 (F := Ideal)) = v
  simp only [pointwise]
  refine congrArg (fun z => v (ix2 z 0)) (Fin.ext ?_)
  show a.val * 256 + b.val = 256 * a.val + b.val
  omega

/-- The new weight at row `R`, column `q`, of the arguments. -/
def wArg (a0 : Vec Ideal S4x2048x32768 .fp8e5m2) (a1 : Vec Ideal S4x2048x256 .f32) (a2 : Vec Ideal S1536x8192 .bf16)
    (a3 : Vec Ideal S32768x1536 .i8) (a4 : Vec Ideal S32768 .f32) (a5 : Vec Ideal S12x32768x128 .f32) (a6 : EReal)
    (R : Fin 32768) (q : Fin 1536) : EReal :=
  FloatOps.sitofp (F := Ideal) .f32 (a3 (ix2 R q)) * a4 (ix1 R)
    - a6 * (∑ k : Fin 8192, a2 (ix2 q k) * (a0 (ix3 ⟨k.val / 2048, by omega⟩ ⟨k.val % 2048, by omega⟩ R)
        * a1 (ix3 ⟨k.val / 2048, by omega⟩ ⟨k.val % 2048, by omega⟩ ⟨R.val / 128, by omega⟩))
      + a5 (ix3 ⟨q.val / 128, by omega⟩ R ⟨q.val % 128, by omega⟩))

theorem pay4_apply (a0 : Vec Ideal S4x2048x32768 .fp8e5m2) (a1 : Vec Ideal S4x2048x256 .f32) (a2 : Vec Ideal S1536x8192 .bf16)
    (a3 : Vec Ideal S32768x1536 .i8) (a4 : Vec Ideal S32768 .f32) (a5 : Vec Ideal S12x32768x128 .f32) (a6 : Elt Ideal .f32)
    (R : Fin 32768) (q : Fin 1536) :
    k0_pay4 a0 a1 a3 a4 a2 a5 a6 (ix2 R q) = wArg a0 a1 a2 a3 a4 a5 a6 R q := by
  simp only [k0_pay4, pointwise]
  rw [zero_add]
  unfold wArg
  refine congrArg₂ (fun (u w : EReal) => u - a6 * (w + a5 (ix3 ⟨q.val / 128, by omega⟩ R ⟨q.val % 128, by omega⟩))) rfl ?_
  refine Finset.sum_congr rfl fun k _ => ?_
  exact mul_comm (G := EReal) _ _

end Cert.Proof.DeRef
end
-- ==== Proof.DeKernelValue.lean ====
/-
  The two result arrays of the embedding-gradient kernel over the extended reals: row `R` of the new weights is read off
  block `R / 256`, and the codes and the scale of the row are its quantisation.
-/
module

public import proofs.«01_k».proof.Proof.DeBlockValue
public import proofs.«01_k».proof.Proof.Gen.KernelDeIdeal.Value
public import proofs.«01_k».proof.Proof.DeRefValue
public import Idealize.ShloMosaic.Lib.Claim

@[expose] public section

noncomputable section

open Idealize.ShloMosaic Idealize.ShloMosaic.TcCoe Idealize.SL.Sem
open scoped BigOperators

namespace Cert.Proof.De

open Cert.KernelDeIdeal Cert.KernelDeIdeal.Gen Cert.KernelDeIdeal.Value

theorem idx0 : ∀ t : Fin cfg0.N, win0_0.index t 0 = 0 ∧ win0_0.index t 1 = t.val :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 ∧ win0_4.index t 2 = 0 :=
  (by decide +kernel : ∀ t : Fin grid0.N, _)
theorem idx5 : ∀ t : Fin cfg0.N, win0_5.index t 0 = 0 ∧ win0_5.index t 1 = t.val ∧ win0_5.index t 2 = 0 :=
  (by decide +kernel : ∀ t : Fin grid0.N, _)
theorem idx6 : ∀ t : Fin cfg0.N, win0_6.index t 0 = 0 :=
  (by decide +kernel : ∀ t : Fin grid0.N, _)
theorem idx7 : ∀ t : Fin cfg0.N, win0_7.index t 0 = t.val ∧ win0_7.index t 1 = 0 :=
  (by decide +kernel : ∀ t : Fin grid0.N, _)
theorem idx8 : ∀ t : Fin cfg0.N, win0_8.index t 0 = t.val ∧ win0_8.index t 1 = 0 ∧ win0_8.index t 2 = 0 :=
  (by decide +kernel : ∀ t : Fin grid0.N, _)
theorem coord0 : ∀ t : Fin cfg0.N, (grid0.coords t 0).val = t.val :=
  (by decide +kernel : ∀ t : Fin grid0.N, _)
theorem fl7 : ∀ t : Fin cfg0.N, (cfg0.win 7).flush t = true :=
  (by decide +kernel : ∀ t : Fin grid0.N, win0_7.flush t = true)
theorem fl8 : ∀ t : Fin cfg0.N, (cfg0.win 8).flush t = true :=
  (by decide +kernel : ∀ t : Fin grid0.N, win0_8.flush t = true)

theorem lt_N (t : Fin cfg0.N) : t.val < 128 := t.isLt.trans_eq N_0

variable (m : (ℓ : Loc nD τ sig) → Buf (Elt Ideal) ℓ)

/-- The operands of the step, as the region finds them. -/
abbrev aDL (c : Dev nD) : Vec Ideal S8192x32768 .fp8e5m2 := V m c main_v0
abbrev aDS (c : Dev nD) : Vec Ideal S8192x256 .f32 := V m c main_v1
abbrev aH (c : Dev nD) : Vec Ideal S1536x8192 .bf16 := V m c main_arg2
abbrev aE (c : Dev nD) : Vec Ideal S32768x1536 .i8 := V m c main_arg3
abbrev aES (c : Dev nD) : Vec Ideal S128x1x256 .f32 := V m c main_v2
abbrev aSC (c : Dev nD) : Vec Ideal S12x32768x128 .f32 := V m c main_arg5
abbrev aLR (c : Dev nD) : Vec Ideal S1 .f32 := V m c main_arg6

theorem iblk0_apply (c : Dev nD) (t : Fin cfg0.N) (r : Fin 8192) (k : Fin 256) :
    (iblk m c 0 t : Vec Ideal S8192x256 .fp8e5m2) (ix2 r k) = aDL m c (ix2 r ⟨256 * t.val + k.val, by have := lt_N t; omega⟩) := by
  unfold iblk
  rw [View.read_apply]
  refine congrArg (V m c main_v0) (funext fun a => Fin.ext ?_)
  match a with
  | ⟨0, _⟩ => show win0_0.index t 0 * 8192 + 1 * r.val = r.val; rw [(idx0 t).1]; omega
  | ⟨1, _⟩ => show win0_0.index t 1 * 256 + 1 * k.val = 256 * t.val + k.val; rw [(idx0 t).2]; omega

theorem iblk1_apply (c : Dev nD) (t : Fin cfg0.N) (r : Fin 8192) (k : Fin 256) :
    (iblk m c 1 t : Vec Ideal S8192x256 .f32) (ix2 r k) = aDS m c (ix2 r k) := by
  unfold iblk
  rw [View.read_apply]
  refine congrArg (V m c main_v1) (funext fun a => Fin.ext ?_)
  match a with
  | ⟨0, _⟩ => show win0_1.index t 0 * 8192 + 1 * r.val = r.val; rw [(idx1 t).1]; omega
  | ⟨1, _⟩ => show win0_1.index t 1 * 256 + 1 * k.val = k.val; rw [(idx1 t).2]; omega

theorem iblk2_apply (c : Dev nD) (t : Fin cfg0.N) (q : Fin 1536) (k : Fin 8192) :
    (iblk m c 2 t : Vec Ideal S1536x8192 .bf16) (ix2 q k) = aH m c (ix2 q k) := by
  unfold iblk
  rw [View.read_apply]
  refine congrArg (V m c main_arg2) (funext fun a => Fin.ext ?_)
  match a with
  | ⟨0, _⟩ => show win0_2.index t 0 * 1536 + 1 * q.val = q.val; rw [(idx2 t).1]; omega
  | ⟨1, _⟩ => show win0_2.index t 1 * 8192 + 1 * k.val = k.val; rw [(idx2 t).2]; omega

theorem iblk3_apply (c : Dev nD) (t : Fin cfg0.N) (r : Fin 256) (q : Fin 1536) :
    (iblk m c 3 t : Vec Ideal S256x1536 .i8) (ix2 r q) = aE m c (ix2 ⟨256 * t.val + r.val, by have := lt_N t; omega⟩ q) := by
  unfold iblk
  rw [View.read_apply]
  refine congrArg (V m c main_arg3) (funext fun a => Fin.ext ?_)
  match a with
  | ⟨0, _⟩ => show win0_3.index t 0 * 256 + 1 * r.val = 256 * t.val + r.val; rw [(idx3 t).1]; omega
  | ⟨1, _⟩ => show win0_3.index t 1 * 1536 + 1 * q.val = q.val; rw [(idx3 t).2]; omega

theorem iblk4_apply (c : Dev nD) (t : Fin cfg0.N) (r : Fin 256) :
    (iblk m c 4 t : Vec Ideal S1x1x256 .f32) (ix3 0 0 r) = aES m c (ix3 ⟨t.val, lt_N t⟩ 0 r) := by
  unfold iblk
  rw [View.read_apply]
  refine congrArg (V m c main_v2) (funext fun a => Fin.ext ?_)
  match a with
  | ⟨0, _⟩ => show win0_4.index t 0 * 1 + 1 * 0 = t.val; rw [(idx4 t).1]; omega
  | ⟨1, _⟩ => show win0_4.index t 1 * 1 + 1 * 0 = 0; rw [(idx4 t).2.1]
  | ⟨2, _⟩ => show win0_4.index t 2 * 256 + 1 * r.val = r.val; rw [(idx4 t).2.2]; omega

theorem iblk5_apply (c : Dev nD) (t : Fin cfg0.N) (p : Fin 12) (r : Fin 256) (q : Fin 128) :
    (iblk m c 5 t : Vec Ideal S12x256x128 .f32) (ix3 p r q) = aSC m c (ix3 p ⟨256 * t.val + r.val, by have := lt_N t; omega⟩ q) := by
  unfold iblk
  rw [View.read_apply]
  refine congrArg (V m c main_arg5) (funext fun a => Fin.ext ?_)
  match a with
  | ⟨0, _⟩ => show win0_5.index t 0 * 12 + 1 * p.val = p.val; rw [(idx5 t).1]; omega
  | ⟨1, _⟩ => show win0_5.index t 1 * 256 + 1 * r.val = 256 * t.val + r.val; rw [(idx5 t).2.1]; omega
  | ⟨2, _⟩ => show win0_5.index t 2 * 128 + 1 * q.val = q.val; rw [(idx5 t).2.2]; omega

theorem iblk6_apply (c : Dev nD) (t : Fin cfg0.N)  :
    (iblk m c 6 t : Vec Ideal S1 .f32) (ix1 0) = aLR m c (ix1 0) := by
  unfold iblk
  rw [View.read_apply]
  refine congrArg (V m c main_arg6) (funext fun a => Fin.ext ?_)
  match a with
  | ⟨0, _⟩ => show win0_6.index t 0 * 1 + 1 * 0 = 0; rw [idx6 t]

theorem V_v0 (c : Dev nD) : V m c main_v0 = shapeCast S8192x32768
    (m ((c : Thread nD τ).loc main_arg0) : Vec Ideal S4x2048x32768 .fp8e5m2) shapeCasts_S4x2048x32768_S8192x32768 := by
  dsimp only [V, hostOps0]; after_results; rfl
theorem V_v1 (c : Dev nD) : V m c main_v1 = shapeCast S8192x256
    (m ((c : Thread nD τ).loc main_arg1) : Vec Ideal S4x2048x256 .f32) shapeCasts_S4x2048x256_S8192x256 := by
  dsimp only [V, hostOps0]; after_results; rfl
theorem V_v2 (c : Dev nD) : V m c main_v2 = shapeCast S128x1x256
    (m ((c : Thread nD τ).loc main_arg4) : Vec Ideal S32768 .f32) shapeCasts_S32768_S128x1x256 := by
  dsimp only [V, hostOps0]; after_results; rfl

theorem aDL_apply (c : Dev nD) (k : Fin 8192) (R : Fin 32768) : aDL m c (ix2 k R)
    = (m ((c : Thread nD τ).loc main_arg0) : Vec Ideal S4x2048x32768 .fp8e5m2) (ix3 ⟨k.val / 2048, by omega⟩ ⟨k.val % 2048, by omega⟩ R) := by
  unfold aDL
  rw [V_v0]
  simp only [pointwise]
theorem aDS_apply (c : Dev nD) (k : Fin 8192) (R : Fin 256) : aDS m c (ix2 k R)
    = (m ((c : Thread nD τ).loc main_arg1) : Vec Ideal S4x2048x256 .f32) (ix3 ⟨k.val / 2048, by omega⟩ ⟨k.val % 2048, by omega⟩ R) := by
  unfold aDS
  rw [V_v1]
  simp only [pointwise]
theorem aES_apply (c : Dev nD) (t : Fin 128) (r : Fin 256) : aES m c (ix3 t 0 r)
    = (m ((c : Thread nD τ).loc main_arg4) : Vec Ideal S32768 .f32) (ix1 ⟨256 * t.val + r.val, by omega⟩) := by
  unfold aES
  rw [V_v2]
  simp only [pointwise]
  refine congrArg (fun z => (m ((c : Thread nD τ).loc main_arg4) : Vec Ideal S32768 .f32) (ix1 z)) (Fin.ext ?_)
  show t.val * 256 + r.val = 256 * t.val + r.val
  omega

/-- The new weight at row `R`, column `q`, of the kernel's arguments. -/
abbrev wAt (c : Dev nD) (R : Fin 32768) (q : Fin 1536) : EReal :=
  DeRef.wArg (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ((m ((c : Thread nD τ).loc main_arg6) : Vec Ideal S1 .f32) (ix1 0)) R q

theorem wOf_eq (c : Dev nD) (t : Fin cfg0.N) (r : Fin 256) (q : Fin 1536) :
    wOf (grid0.coords t 0) (iblk m c 0 t) (iblk m c 1 t) (iblk m c 2 t) (iblk m c 3 t) (iblk m c 4 t) (iblk m c 5 t)
        ((iblk m c 6 t : Vec Ideal S1 .f32) (ix1 0)) r q
      = wAt m c ⟨256 * t.val + r.val, by have := lt_N t; omega⟩ q := by
  have ht := lt_N t
  have hc := coord0 t
  unfold wOf wAt DeRef.wArg
  rw [iblk3_apply, iblk4_apply, iblk5_apply, iblk6_apply, aES_apply]
  unfold aE aSC aLR
  rw [V_main_arg3, V_main_arg5, V_main_arg6]
  refine congrArg₂ HSub.hSub rfl (congrArg₂ HMul.hMul rfl (congrArg₂ HAdd.hAdd (Finset.sum_congr rfl fun k _ => ?_) rfl))
  rw [iblk0_apply, iblk1_apply, iblk2_apply, aDL_apply, aDS_apply]
  unfold aH
  rw [V_main_arg2]
  have e : (⟨2 * (grid0.coords t 0).val + r.val / 128, by rw [hc]; omega⟩ : Fin 256) = ⟨(256 * t.val + r.val) / 128, by omega⟩ :=
    Fin.ext (by show 2 * (grid0.coords t 0).val + r.val / 128 = (256 * t.val + r.val) / 128; rw [hc]; omega)
  exact congrArg₂ HMul.hMul rfl (congrArg₂ HMul.hMul rfl (congrArg (fun z => (m ((c : Thread nD τ).loc main_arg1) : Vec Ideal S4x2048x256 .f32)
    (ix3 ⟨k.val / 2048, by omega⟩ ⟨k.val % 2048, by omega⟩ z)) e))

/-- Element `(R, q)` of the new codes, written at grid point `t`. -/
theorem codes_at (c : Dev nD) (t : Fin cfg0.N) (r : Fin 256) (R : Fin 32768) (e : (⟨256 * t.val + r.val, by have := lt_N t; omega⟩ : Fin 32768) = R) (q : Fin 1536) :
    ((dats m 0 c).arrAt 7 cfg0.N : Vec Ideal S32768x1536 .i8) (ix2 R q) = codeOf (wAt m c R q) (invR (xOf fun k => wAt m c R k)) := by
  subst e
  have h := congrFun ((blocks7 m c t (fl7 _)).trans (flushed7_A m c t)) (ix2 r q)
  rw [View.read_apply, out7_eq] at h
  refine Eq.trans (congrArg ((dats m 0 c).arrAt 7 cfg0.N : Vec Ideal S32768x1536 .i8) (funext fun a => Fin.ext ?_)) (h.trans ?_)
  · match a with
    | ⟨0, _⟩ => show 256 * t.val + r.val = win0_7.index t 0 * 256 + 1 * r.val; rw [(idx7 _).1]; omega
    | ⟨1, _⟩ => show q.val = win0_7.index t 1 * 1536 + 1 * q.val; rw [(idx7 _).2]; omega
  · refine (codesBlk_apply (grid0.coords t) _ _ _ _ _ _ _ _ _).trans ?_
    have hw := fun k : Fin 1536 => wOf_eq m c t r k
    rw [hw q, funext hw]

/-- Element `(a, 0, b)` of the new scales, written at grid point `t`. -/
theorem scales_at (c : Dev nD) (t : Fin cfg0.N) (a : Fin 128) (e : (⟨t.val, lt_N t⟩ : Fin 128) = a) (b : Fin 256) :
    ((dats m 0 c).arrAt 8 cfg0.N : Vec Ideal S128x1x256 .f32) (ix3 a 0 b)
      = scaleR (xOf fun k => wAt m c ⟨256 * a.val + b.val, by omega⟩ k) := by
  subst e
  have h := congrFun ((blocks8 m c t (fl8 _)).trans (flushed8_A m c t)) (ix3 (0 : Fin 1) (0 : Fin 1) b)
  rw [View.read_apply, out8_eq] at h
  refine Eq.trans (congrArg ((dats m 0 c).arrAt 8 cfg0.N : Vec Ideal S128x1x256 .f32) (funext fun d => Fin.ext ?_)) (h.trans ?_)
  · match d with
    | ⟨0, _⟩ => show t.val = win0_8.index t 0 * 1 + 1 * 0; rw [(idx8 _).1]; omega
    | ⟨1, _⟩ => show 0 = win0_8.index t 1 * 1 + 1 * 0; rw [(idx8 _).2.1]
    | ⟨2, _⟩ => show b.val = win0_8.index t 2 * 256 + 1 * b.val; rw [(idx8 _).2.2]; omega
  · refine (scalesBlk_apply (grid0.coords t) _ _ _ _ _ _ _ _).trans ?_
    exact congrArg (fun f => scaleR (xOf f)) (funext fun k => wOf_eq m c t b k)

/-- Element `(R, q)` of the new codes. -/
theorem codes_apply (c : Dev nD) (R : Fin 32768) (q : Fin 1536) :
    ((dats m 0 c).arrAt 7 cfg0.N : Vec Ideal S32768x1536 .i8) (ix2 R q) = codeOf (wAt m c R q) (invR (xOf fun k => wAt m c R k)) :=
  codes_at m c ⟨R.val / 256, by rw [show cfg0.N = 128 from N_0]; omega⟩ ⟨R.val % 256, by omega⟩ R
    (Fin.ext (by show 256 * (R.val / 256) + R.val % 256 = R.val; omega)) q

/-- Element `(a, 0, b)` of the new scales: the scale of row `256 a + b`. -/
theorem scales_apply (c : Dev nD) (a : Fin 128) (b : Fin 256) :
    ((dats m 0 c).arrAt 8 cfg0.N : Vec Ideal S128x1x256 .f32) (ix3 a 0 b)
      = scaleR (xOf fun k => wAt m c ⟨256 * a.val + b.val, by omega⟩ k) :=
  scales_at m c ⟨a.val, by rw [show cfg0.N = 128 from N_0]; omega⟩ a rfl b

end Cert.Proof.De
end
-- ==== Proof.DeRefArray.lean ====
/-
  The reference's two result arrays over the extended reals, read at an index.
-/
module

public import proofs.«01_k».proof.Proof.DeRefValue
public import proofs.«01_k».proof.Proof.Gen.ReferenceDeIdeal.Value
public import Idealize.ShloMosaic.Lib.Pipeline.Value
public import Idealize.ShloMosaic.Lib.Tactic

@[expose] public section

noncomputable section

open Idealize.ShloMosaic Idealize.ShloMosaic.TcCoe Idealize.SL.Sem
open scoped BigOperators

namespace Cert.Proof.DeRef

open Cert.ReferenceDeIdeal Cert.ReferenceDeIdeal.Gen Cert.ReferenceDeIdeal.Value Cert.Proof.De

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

theorem pay5_eq (v0 : Vec F S4x2048x32768 .fp8e5m2) (v3 : Vec F S4x2048x256 .f32) (v9 : Vec F S32768x1536 .i8) (v11 : Vec F S32768 .f32)
    (v16 : Vec F S1536x8192 .bf16) (v18 : Vec F S12x32768x128 .f32) (v23 : Elt F .f32) :
    k0_pay5 v0 v3 v9 v11 v16 v18 v23 = xcol (k0_pay4 v0 v3 v9 v11 v16 v18 v23) := rfl
theorem pay7_eq (v0 : Vec F S4x2048x32768 .fp8e5m2) (v3 : Vec F S4x2048x256 .f32) (v9 : Vec F S32768x1536 .i8) (v11 : Vec F S32768 .f32)
    (v16 : Vec F S1536x8192 .bf16) (v18 : Vec F S12x32768x128 .f32) (v23 : Elt F .f32) :
    k0_pay7 v0 v3 v9 v11 v16 v18 v23 = above (xcol (k0_pay4 v0 v3 v9 v11 v16 v18 v23)) := rfl

/-- The reference's new weights, of its arguments. -/
abbrev wTerm (x0 : Vec F S4x2048x32768 .fp8e5m2) (x1 : Vec F S4x2048x256 .f32) (x2 : Vec F S1536x8192 .bf16) (x3 : Vec F S32768x1536 .i8) (x4 : Vec F S32768 .f32) (x5 : Vec F S12x32768x128 .f32) (x6 : Vec F S1 .f32) : FVec F S32768x1536 .f32 := k0_pay4 x0 x1 x3 x4 x2 x5 (x6 (ix1 0))

variable (c : Dev nD) (arg0 : Memref sig .tc .vmem S4x2048x32768 .fp8e5m2) (harg0 : arg0.IsWhole) (arg1 : Memref sig .tc .vmem S4x2048x256 .f32) (harg1 : arg1.IsWhole) (arg2 : Memref sig .tc .vmem S1536x8192 .bf16) (harg2 : arg2.IsWhole) (arg3 : Memref sig .tc .vmem S32768x1536 .i8) (harg3 : arg3.IsWhole) (arg4 : Memref sig .tc .vmem S32768 .f32) (harg4 : arg4.IsWhole) (arg5 : Memref sig .tc .vmem S12x32768x128 .f32) (harg5 : arg5.IsWhole) (arg6 : Memref sig .tc .smem S1 .f32) (harg6 : arg6.IsWhole) (arg7 : Memref sig .tc .vmem S32768x1536 .i8) (harg7 : arg7.IsWhole) (arg8 : Memref sig .tc .vmem S128x1x256 .f32) (harg8 : arg8.IsWhole)
  (x0 : Vec F S4x2048x32768 .fp8e5m2) (x1 : Vec F S4x2048x256 .f32) (x2 : Vec F S1536x8192 .bf16) (x3 : Vec F S32768x1536 .i8) (x4 : Vec F S32768 .f32) (x5 : Vec F S12x32768x128 .f32) (x6 : Vec F S1 .f32)

theorem out7_eq :
    out0_A_7 c arg0 harg0 arg1 harg1 arg2 harg2 arg3 harg3 arg4 harg4 arg5 harg5 arg6 harg6 arg7 harg7 arg8 harg8 x0 x1 x2 x3 x4 x5 x6
      = k0_pay2 (wTerm x0 x1 x2 x3 x4 x5 x6) (xcol (wTerm x0 x1 x2 x3 x4 x5 x6)) (k0_pay6 (F := F)) (above (xcol (wTerm x0 x1 x2 x3 x4 x5 x6))) (k0_pay8 (F := F)) := by
  unfold out0_A_7
  rw [View.read_writes_eq_canon _ _ _ (cover0_A_7 c arg0 harg0 arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero hz2]
  simp only [View.readAt_eq_ld]
  rw [harg0.read_unread, harg1.read_unread, harg2.read_unread, harg3.read_unread, harg4.read_unread, harg5.read_unread, harg6.read_unread]
  simp only [View.ld_unit_zero (S := S4x2048x32768) hz3, View.ld_unit_zero (S := S4x2048x256) hz3, View.ld_unit_zero (S := S1536x8192) hz2,
    View.ld_unit_zero (S := S32768x1536) hz2, View.ld_unit_zero (S := S32768) hz1, View.ld_unit_zero (S := S12x32768x128) hz3,
    View.ld_unit_zero (S := S1) hz1]
  rw [pay5_eq, pay7_eq]
  exact congrArg (fun z => k0_pay2 (k0_pay4 x0 x1 x3 x4 x2 x5 z) (xcol (k0_pay4 x0 x1 x3 x4 x2 x5 z)) (k0_pay6 (F := F)) (above (xcol (k0_pay4 x0 x1 x3 x4 x2 x5 z))) (k0_pay8 (F := F)))
    (congrArg x6 (funext fun a => by match a with | ⟨0, _⟩ => rfl))

theorem out8_eq :
    out0_A_8 c arg0 harg0 arg1 harg1 arg2 harg2 arg3 harg3 arg4 harg4 arg5 harg5 arg6 harg6 arg7 harg7 arg8 harg8 x0 x1 x2 x3 x4 x5 x6
      = k0_pay3 (xcol (wTerm x0 x1 x2 x3 x4 x5 x6)) (k0_pay6 (F := F)) (above (xcol (wTerm x0 x1 x2 x3 x4 x5 x6))) (k0_pay8 (F := F)) := by
  unfold out0_A_8
  rw [View.read_writes_eq_canon _ _ _ (cover0_A_8 c arg0 harg0 arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero hz3]
  simp only [View.readAt_eq_ld]
  rw [harg0.read_unread, harg1.read_unread, harg2.read_unread, harg3.read_unread, harg4.read_unread, harg5.read_unread, harg6.read_unread]
  simp only [View.ld_unit_zero (S := S4x2048x32768) hz3, View.ld_unit_zero (S := S4x2048x256) hz3, View.ld_unit_zero (S := S1536x8192) hz2,
    View.ld_unit_zero (S := S32768x1536) hz2, View.ld_unit_zero (S := S32768) hz1, View.ld_unit_zero (S := S12x32768x128) hz3,
    View.ld_unit_zero (S := S1) hz1]
  rw [pay5_eq, pay7_eq]
  exact congrArg (fun z => k0_pay3 (xcol (k0_pay4 x0 x1 x3 x4 x2 x5 z)) (k0_pay6 (F := F)) (above (xcol (k0_pay4 x0 x1 x3 x4 x2 x5 z))) (k0_pay8 (F := F)))
    (congrArg x6 (funext fun a => by match a with | ⟨0, _⟩ => rfl))

end

variable (m : (ℓ : Loc nD τ sig) → Buf (Elt Ideal) ℓ)

theorem idx0 : ∀ t : Fin cfg0.N, win0_0.index t 0 = 0 ∧ win0_0.index t 1 = 0 ∧ win0_0.index t 2 = 0 :=
  (by decide +kernel : ∀ t : Fin grid0.N, _)
theorem iblk0_eq (c : Dev nD) (t : Fin cfg0.N) :
    (iblk m c 0 t : Vec Ideal S4x2048x32768 .fp8e5m2) = (m ((c : Thread nD τ).loc main_arg0) : Vec Ideal S4x2048x32768 .fp8e5m2) := by
  rw [← V_main_arg0 m c]
  funext j
  unfold iblk
  rw [View.read_apply]
  refine congrArg (V m c main_arg0) (funext fun a => Fin.ext ?_)
  match a with
  | ⟨0, _⟩ => show win0_0.index t 0 * 4 + 1 * (j 0).val = (j 0).val; rw [(idx0 t).1]; omega
  | ⟨1, _⟩ => show win0_0.index t 1 * 2048 + 1 * (j 1).val = (j 1).val; rw [(idx0 t).2.1]; omega
  | ⟨2, _⟩ => show win0_0.index t 2 * 32768 + 1 * (j 2).val = (j 2).val; rw [(idx0 t).2.2]; omega

theorem idx1 : ∀ t : Fin cfg0.N, win0_1.index t 0 = 0 ∧ win0_1.index t 1 = 0 ∧ win0_1.index t 2 = 0 :=
  (by decide +kernel : ∀ t : Fin grid0.N, _)
theorem iblk1_eq (c : Dev nD) (t : Fin cfg0.N) :
    (iblk m c 1 t : Vec Ideal S4x2048x256 .f32) = (m ((c : Thread nD τ).loc main_arg1) : Vec Ideal S4x2048x256 .f32) := by
  rw [← V_main_arg1 m c]
  funext j
  unfold iblk
  rw [View.read_apply]
  refine congrArg (V m c main_arg1) (funext fun a => Fin.ext ?_)
  match a with
  | ⟨0, _⟩ => show win0_1.index t 0 * 4 + 1 * (j 0).val = (j 0).val; rw [(idx1 t).1]; omega
  | ⟨1, _⟩ => show win0_1.index t 1 * 2048 + 1 * (j 1).val = (j 1).val; rw [(idx1 t).2.1]; omega
  | ⟨2, _⟩ => show win0_1.index t 2 * 256 + 1 * (j 2).val = (j 2).val; rw [(idx1 t).2.2]; omega

theorem idx2 : ∀ t : Fin cfg0.N, win0_2.index t 0 = 0 ∧ win0_2.index t 1 = 0 :=
  (by decide +kernel : ∀ t : Fin grid0.N, _)
theorem iblk2_eq (c : Dev nD) (t : Fin cfg0.N) :
    (iblk m c 2 t : Vec Ideal S1536x8192 .bf16) = (m ((c : Thread nD τ).loc main_arg2) : Vec Ideal S1536x8192 .bf16) := by
  rw [← V_main_arg2 m c]
  funext j
  unfold iblk
  rw [View.read_apply]
  refine congrArg (V m c main_arg2) (funext fun a => Fin.ext ?_)
  match a with
  | ⟨0, _⟩ => show win0_2.index t 0 * 1536 + 1 * (j 0).val = (j 0).val; rw [(idx2 t).1]; omega
  | ⟨1, _⟩ => show win0_2.index t 1 * 8192 + 1 * (j 1).val = (j 1).val; rw [(idx2 t).2]; omega

theorem idx3 : ∀ t : Fin cfg0.N, win0_3.index t 0 = 0 ∧ win0_3.index t 1 = 0 :=
  (by decide +kernel : ∀ t : Fin grid0.N, _)
theorem iblk3_eq (c : Dev nD) (t : Fin cfg0.N) :
    (iblk m c 3 t : Vec Ideal S32768x1536 .i8) = (m ((c : Thread nD τ).loc main_arg3) : Vec Ideal S32768x1536 .i8) := by
  rw [← V_main_arg3 m c]
  funext j
  unfold iblk
  rw [View.read_apply]
  refine congrArg (V m c main_arg3) (funext fun a => Fin.ext ?_)
  match a with
  | ⟨0, _⟩ => show win0_3.index t 0 * 32768 + 1 * (j 0).val = (j 0).val; rw [(idx3 t).1]; omega
  | ⟨1, _⟩ => show win0_3.index t 1 * 1536 + 1 * (j 1).val = (j 1).val; rw [(idx3 t).2]; omega

theorem idx4 : ∀ t : Fin cfg0.N, win0_4.index t 0 = 0 :=
  (by decide +kernel : ∀ t : Fin grid0.N, _)
theorem iblk4_eq (c : Dev nD) (t : Fin cfg0.N) :
    (iblk m c 4 t : Vec Ideal S32768 .f32) = (m ((c : Thread nD τ).loc main_arg4) : Vec Ideal S32768 .f32) := by
  rw [← V_main_arg4 m c]
  funext j
  unfold iblk
  rw [View.read_apply]
  refine congrArg (V m c main_arg4) (funext fun a => Fin.ext ?_)
  match a with
  | ⟨0, _⟩ => show win0_4.index t 0 * 32768 + 1 * (j 0).val = (j 0).val; rw [idx4 t]; omega

theorem idx5 : ∀ t : Fin cfg0.N, win0_5.index t 0 = 0 ∧ win0_5.index t 1 = 0 ∧ win0_5.index t 2 = 0 :=
  (by decide +kernel : ∀ t : Fin grid0.N, _)
theorem iblk5_eq (c : Dev nD) (t : Fin cfg0.N) :
    (iblk m c 5 t : Vec Ideal S12x32768x128 .f32) = (m ((c : Thread nD τ).loc main_arg5) : Vec Ideal S12x32768x128 .f32) := by
  rw [← V_main_arg5 m c]
  funext j
  unfold iblk
  rw [View.read_apply]
  refine congrArg (V m c main_arg5) (funext fun a => Fin.ext ?_)
  match a with
  | ⟨0, _⟩ => show win0_5.index t 0 * 12 + 1 * (j 0).val = (j 0).val; rw [(idx5 t).1]; omega
  | ⟨1, _⟩ => show win0_5.index t 1 * 32768 + 1 * (j 1).val = (j 1).val; rw [(idx5 t).2.1]; omega
  | ⟨2, _⟩ => show win0_5.index t 2 * 128 + 1 * (j 2).val = (j 2).val; rw [(idx5 t).2.2]; omega

theorem idx6 : ∀ t : Fin cfg0.N, win0_6.index t 0 = 0 :=
  (by decide +kernel : ∀ t : Fin grid0.N, _)
theorem iblk6_eq (c : Dev nD) (t : Fin cfg0.N) :
    (iblk m c 6 t : Vec Ideal S1 .f32) = (m ((c : Thread nD τ).loc main_arg6) : Vec Ideal S1 .f32) := by
  rw [← V_main_arg6 m c]
  funext j
  unfold iblk
  rw [View.read_apply]
  refine congrArg (V m c main_arg6) (funext fun a => Fin.ext ?_)
  match a with
  | ⟨0, _⟩ => show win0_6.index t 0 * 1 + 1 * (j 0).val = (j 0).val; rw [idx6 t]; omega

theorem idx7 : ∀ t : Fin cfg0.N, win0_7.index t 0 = 0 ∧ win0_7.index t 1 = 0 :=
  (by decide +kernel : ∀ t : Fin grid0.N, _)
theorem idx8 : ∀ t : Fin cfg0.N, win0_8.index t 0 = 0 ∧ win0_8.index t 1 = 0 ∧ win0_8.index t 2 = 0 :=
  (by decide +kernel : ∀ t : Fin grid0.N, _)
theorem fl7 : ∀ t : Fin cfg0.N, (cfg0.win 7).flush t = true :=
  (by decide +kernel : ∀ t : Fin grid0.N, win0_7.flush t = true)
theorem fl8 : ∀ t : Fin cfg0.N, (cfg0.win 8).flush t = true :=
  (by decide +kernel : ∀ t : Fin grid0.N, win0_8.flush t = true)

/-- The new weight at row `R`, column `q`, of the reference's arguments. -/
abbrev wAt (c : Dev nD) (R : Fin 32768) (q : Fin 1536) : EReal :=
  wArg (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ((m ((c : Thread nD τ).loc main_arg6) : Vec Ideal S1 .f32) (ix1 0)) R q

set_option maxRecDepth 100000 in
/-- Element `(R, q)` of the new codes, written at the one grid point `t`. -/
theorem codes_at (c : Dev nD) (t : Fin cfg0.N) (R : Fin 32768) (q : Fin 1536) :
    ((dats m 0 c).arrAt 7 cfg0.N : Vec Ideal S32768x1536 .i8) (ix2 R q) = codeOf (wAt m c R q) (invR (xOf fun k => wAt m c R k)) := by
  have h := congrFun ((blocks7 m c t (fl7 _)).trans (flushed7_A m c t)) (ix2 R q)
  rw [View.read_apply, out7_eq] at h
  refine Eq.trans (congrArg ((dats m 0 c).arrAt 7 cfg0.N : Vec Ideal S32768x1536 .i8) (funext fun a => Fin.ext ?_)) (h.trans ?_)
  · match a with
    | ⟨0, _⟩ => show R.val = win0_7.index t 0 * 32768 + 1 * R.val; rw [(idx7 _).1]; omega
    | ⟨1, _⟩ => show q.val = win0_7.index t 1 * 1536 + 1 * q.val; rw [(idx7 _).2]; omega
  · rw [iblk0_eq, iblk1_eq, iblk2_eq, iblk3_eq, iblk4_eq, iblk5_eq, iblk6_eq]
    refine (pay2_apply _ _ R q).trans ?_
    rw [xcol_apply]
    have hw : ∀ k : Fin 1536, wTerm (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix2 R k) = wAt m c R k := fun k => pay4_apply _ _ _ _ _ _ _ R k
    rw [hw q, funext hw]

/-- Element `(a, 0, b)` of the new scales, written at the one grid point `t`. -/
theorem scales_at (c : Dev nD) (t : Fin cfg0.N) (a : Fin 128) (b : Fin 256) :
    ((dats m 0 c).arrAt 8 cfg0.N : Vec Ideal S128x1x256 .f32) (ix3 a 0 b)
      = scaleR (xOf fun k => wAt m c ⟨256 * a.val + b.val, by omega⟩ k) := by
  have h := congrFun ((blocks8 m c t (fl8 _)).trans (flushed8_A m c t)) (ix3 a (0 : Fin 1) b)
  rw [View.read_apply, out8_eq] at h
  refine Eq.trans (congrArg ((dats m 0 c).arrAt 8 cfg0.N : Vec Ideal S128x1x256 .f32) (funext fun d => Fin.ext ?_)) (h.trans ?_)
  · match d with
    | ⟨0, _⟩ => show a.val = win0_8.index t 0 * 128 + 1 * a.val; rw [(idx8 _).1]; omega
    | ⟨1, _⟩ => show 0 = win0_8.index t 1 * 1 + 1 * 0; rw [(idx8 _).2.1]
    | ⟨2, _⟩ => show b.val = win0_8.index t 2 * 256 + 1 * b.val; rw [(idx8 _).2.2]; omega
  · rw [iblk0_eq, iblk1_eq, iblk2_eq, iblk3_eq, iblk4_eq, iblk5_eq, iblk6_eq]
    refine (pay3_apply _ a b).trans ?_
    rw [xcol_apply]
    have hw : ∀ k : Fin 1536, wTerm (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix2 ⟨256 * a.val + b.val, by omega⟩ k) = wAt m c ⟨256 * a.val + b.val, by omega⟩ k := fun k => pay4_apply _ _ _ _ _ _ _ _ k
    rw [funext hw]

/-- Element `(R, q)` of the new codes. -/
theorem codes_apply (c : Dev nD) (R : Fin 32768) (q : Fin 1536) :
    ((dats m 0 c).arrAt 7 cfg0.N : Vec Ideal S32768x1536 .i8) (ix2 R q) = codeOf (wAt m c R q) (invR (xOf fun k => wAt m c R k)) :=
  codes_at m c ⟨0, by rw [show cfg0.N = 1 from N_0]; omega⟩ R q

/-- Element `(a, 0, b)` of the new scales. -/
theorem scales_apply (c : Dev nD) (a : Fin 128) (b : Fin 256) :
    ((dats m 0 c).arrAt 8 cfg0.N : Vec Ideal S128x1x256 .f32) (ix3 a 0 b)
      = scaleR (xOf fun k => wAt m c ⟨256 * a.val + b.val, by omega⟩ k) :=
  scales_at m c ⟨0, by rw [show cfg0.N = 1 from N_0]; omega⟩ a b

end Cert.Proof.DeRef
end
-- ==== Proof.PrepValue.lean ====
/-
  The dequantised, transposed `HH` over the extended reals. Element `(q, R)` of the kernel's array, read off the block that
  holds it, is the code `H[R, q]` times the scale of token `R`; so is the element of the reference's array.
-/
module

public import proofs.«01_k».proof.Proof.Gen.KernelPrepIdeal.Value
public import proofs.«01_k».proof.Proof.Gen.ReferencePrepIdeal.Value
public import Idealize.ShloMosaic.Lib.ValueIdx
public import Idealize.ShloMosaic.Lib.Pointwise
public import Idealize.ShloMosaic.Lib.Claim

@[expose] public section

noncomputable section

open Idealize.ShloMosaic Idealize.ShloMosaic.TcCoe Idealize.SL.Sem

namespace Cert.Proof.PrepRef

open Cert.ReferencePrepIdeal Cert.ReferencePrepIdeal.Gen

theorem pay_apply (a0 : Vec Ideal S4x2048x1536 .fp8e4m3) (a1 : Vec Ideal S4x2048 .f32) (q : Fin 1536) (R : Fin 8192) :
    k0_pay1 a0 a1 (ix2 q R) = a0 (ix3 ⟨R.val / 2048, by omega⟩ ⟨R.val % 2048, by omega⟩ q)
      * a1 (ix2 ⟨R.val / 2048, by omega⟩ ⟨R.val % 2048, by omega⟩) := by
  simp only [k0_pay1, pointwise]
  rfl

end Cert.Proof.PrepRef

namespace Cert.Proof.Prep

open Cert.KernelPrepIdeal Cert.KernelPrepIdeal.Gen Cert.KernelPrepIdeal.Value

theorem hz2 : (![0, 0] : Fin 2 → Nat) = fun _ => 0 := funext fun a => by fin_cases a <;> rfl
theorem hz3 : (![0, 0, 0] : Fin 3 → Nat) = fun _ => 0 := funext fun a => by fin_cases a <;> rfl

theorem idx0 : ∀ t : Fin cfg0.N, win0_0.index t 0 = t.val / 3 ∧ win0_0.index t 1 = t.val % 3 :=
  (by decide +kernel : ∀ t : Fin grid0.N, _)
theorem idx1 : ∀ t : Fin cfg0.N, win0_1.index t 0 = t.val / 3 ∧ win0_1.index t 1 = 0 ∧ win0_1.index t 2 = 0 :=
  (by decide +kernel : ∀ t : Fin grid0.N, _)
theorem idx2 : ∀ t : Fin cfg0.N, win0_2.index t 0 = t.val % 3 ∧ win0_2.index t 1 = t.val / 3 :=
  (by decide +kernel : ∀ t : Fin grid0.N, _)
theorem fl2 : ∀ t : Fin cfg0.N, (cfg0.win 2).flush t = true :=
  (by decide +kernel : ∀ t : Fin grid0.N, win0_2.flush t = true)

theorem lt_N (t : Fin cfg0.N) : t.val < 24 := t.isLt.trans_eq N_0

/-- One grid step's block, at an index. -/
theorem pay_apply (x0 : Vec Ideal S1024x512 .fp8e4m3) (x1 : Vec Ideal S1x1x1024 .f32) (q : Fin 512) (r : Fin 1024) :
    k0_pay1 x0 x1 (ix2 q r) = x0 (ix2 r q) * x1 (ix3 0 0 r) := by
  simp only [k0_pay1, pointwise]
  rfl

theorem out2_eq (x0 : Vec Ideal S1024x512 .fp8e4m3) (x1 : Vec Ideal S1x1x1024 .f32) : out0_2 (F := Ideal) x0 x1 = k0_pay1 x0 x1 := by
  unfold out0_2
  rw [View.canon_unit_zero hz2, View.ld_unit_zero (S := S1024x512) hz2 _ x0, View.ld_unit_zero (S := S1x1x1024) hz3 _ x1]

variable (m : (ℓ : Loc nD τ sig) → Buf (Elt Ideal) ℓ)

theorem iblk0_apply (c : Dev nD) (t : Fin cfg0.N) (r : Fin 1024) (q : Fin 512) :
    (iblk m c 0 t : Vec Ideal S1024x512 .fp8e4m3) (ix2 r q) = (V m c main_v0 : Vec Ideal S8192x1536 .fp8e4m3)
      (ix2 ⟨1024 * (t.val / 3) + r.val, by have := lt_N t; omega⟩ ⟨512 * (t.val % 3) + q.val, by omega⟩) := by
  unfold iblk
  rw [View.read_apply]
  refine congrArg (V m c main_v0) (funext fun a => Fin.ext ?_)
  match a with
  | ⟨0, _⟩ => show win0_0.index t 0 * 1024 + 1 * r.val = 1024 * (t.val / 3) + r.val; rw [(idx0 t).1]; omega
  | ⟨1, _⟩ => show win0_0.index t 1 * 512 + 1 * q.val = 512 * (t.val % 3) + q.val; rw [(idx0 t).2]; omega

theorem iblk1_apply (c : Dev nD) (t : Fin cfg0.N) (r : Fin 1024) :
    (iblk m c 1 t : Vec Ideal S1x1x1024 .f32) (ix3 0 0 r) = (V m c main_v1 : Vec Ideal S8x1x1024 .f32)
      (ix3 ⟨t.val / 3, by have := lt_N t; omega⟩ 0 r) := by
  unfold iblk
  rw [View.read_apply]
  refine congrArg (V m c main_v1) (funext fun a => Fin.ext ?_)
  match a with
  | ⟨0, _⟩ => show win0_1.index t 0 * 1 + 1 * 0 = t.val / 3; rw [(idx1 t).1]; omega
  | ⟨1, _⟩ => show win0_1.index t 1 * 1 + 1 * 0 = 0; rw [(idx1 t).2.1]
  | ⟨2, _⟩ => show win0_1.index t 2 * 1024 + 1 * r.val = r.val; rw [(idx1 t).2.2]; omega

theorem V_v0 (c : Dev nD) : V m c main_v0 = shapeCast S8192x1536
    (m ((c : Thread nD τ).loc main_arg0) : Vec Ideal S4x2048x1536 .fp8e4m3) shapeCasts_S4x2048x1536_S8192x1536 := by
  dsimp only [V, hostOps0]; after_results; rfl
theorem V_v1 (c : Dev nD) : V m c main_v1 = shapeCast S8x1x1024
    (m ((c : Thread nD τ).loc main_arg1) : Vec Ideal S4x2048 .f32) shapeCasts_S4x2048_S8x1x1024 := by
  dsimp only [V, hostOps0]; after_results; rfl

theorem arg0_apply (a : Vec Ideal S4x2048x1536 .fp8e4m3) (R : Fin 8192) (q : Fin 1536) :
    shapeCast S8192x1536 a shapeCasts_S4x2048x1536_S8192x1536 (ix2 R q)
      = a (ix3 ⟨R.val / 2048, by omega⟩ ⟨R.val % 2048, by omega⟩ q) := by
  simp only [pointwise]

theorem arg1_apply (a : Vec Ideal S4x2048 .f32) (u : Fin 8) (r : Fin 1024) :
    shapeCast S8x1x1024 a shapeCasts_S4x2048_S8x1x1024 (ix3 u 0 r)
      = a (ix2 ⟨(1024 * u.val + r.val) / 2048, by omega⟩ ⟨(1024 * u.val + r.val) % 2048, by omega⟩) := by
  simp only [pointwise]
  refine congrArg a (funext fun d => Fin.ext ?_)
  match d with
  | ⟨0, _⟩ => show u.val / 2 = (1024 * u.val + r.val) / 2048; omega
  | ⟨1, _⟩ => show u.val % 2 * 1024 + r.val = (1024 * u.val + r.val) % 2048; omega

/-- The code of token `R`, column `Q`, times the token's scale. -/
def hAt (a0 : Vec Ideal S4x2048x1536 .fp8e4m3) (a1 : Vec Ideal S4x2048 .f32) (Q : Fin 1536) (R : Fin 8192) : EReal :=
  a0 (ix3 ⟨R.val / 2048, by omega⟩ ⟨R.val % 2048, by omega⟩ Q) * a1 (ix2 ⟨R.val / 2048, by omega⟩ ⟨R.val % 2048, by omega⟩)

/-- Element `(Q, R)` of the array, written at grid point `t`. -/
theorem at_point (c : Dev nD) (t : Fin cfg0.N) (q : Fin 512) (r : Fin 1024) (Q : Fin 1536) (R : Fin 8192)
    (eQ : (⟨512 * (t.val % 3) + q.val, by omega⟩ : Fin 1536) = Q)
    (eR : (⟨1024 * (t.val / 3) + r.val, by have := lt_N t; omega⟩ : Fin 8192) = R) :
    ((dats m 0 c).arrAt 2 cfg0.N : Vec Ideal S1536x8192 .bf16) (ix2 Q R)
      = hAt (m ((c : Thread nD τ).loc main_arg0)) (m ((c : Thread nD τ).loc main_arg1)) Q R := by
  subst eQ eR
  have h := congrFun ((blocks2 m c t (fl2 _)).trans (flushed2 m c t)) (ix2 q r)
  rw [View.read_apply, out2_eq] at h
  refine Eq.trans (congrArg ((dats m 0 c).arrAt 2 cfg0.N : Vec Ideal S1536x8192 .bf16) (funext fun a => Fin.ext ?_)) (h.trans ?_)
  · match a with
    | ⟨0, _⟩ => show 512 * (t.val % 3) + q.val = win0_2.index t 0 * 512 + 1 * q.val; rw [(idx2 _).1]; omega
    | ⟨1, _⟩ => show 1024 * (t.val / 3) + r.val = win0_2.index t 1 * 1024 + 1 * r.val; rw [(idx2 _).2]; omega
  · refine (pay_apply _ _ q r).trans ?_
    rw [iblk0_apply, iblk1_apply, V_v0, V_v1, arg0_apply, arg1_apply]
    rfl

/-- **The result array**: element `(Q, R)` is the code of token `R`, column `Q`, times the token's scale. -/
theorem arr_apply (c : Dev nD) (Q : Fin 1536) (R : Fin 8192) :
    ((dats m 0 c).arrAt 2 cfg0.N : Vec Ideal S1536x8192 .bf16) (ix2 Q R)
      = hAt (m ((c : Thread nD τ).loc main_arg0)) (m ((c : Thread nD τ).loc main_arg1)) Q R :=
  at_point m c ⟨3 * (R.val / 1024) + Q.val / 512, by rw [show cfg0.N = 24 from N_0]; omega⟩ ⟨Q.val % 512, by omega⟩
    ⟨R.val % 1024, by omega⟩ Q R
    (Fin.ext (by show 512 * ((3 * (R.val / 1024) + Q.val / 512) % 3) + Q.val % 512 = Q.val; omega))
    (Fin.ext (by show 1024 * ((3 * (R.val / 1024) + Q.val / 512) / 3) + R.val % 1024 = R.val; omega))

end Cert.Proof.Prep
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelDe
public import proofs.«01_k».proof.Proof.Gen.KernelDe.Skeleton
public import proofs.«01_k».proof.Proof.Gen.KernelDe.Launch
public import proofs.«01_k».proof.Proof.Gen.KernelDe.Points
public import proofs.«01_k».proof.Proof.Gen.KernelDe.Frame
public import proofs.«01_k».proof.Proof.Gen.KernelDeIdeal
public import proofs.«01_k».proof.Proof.Gen.KernelDeIdeal.Skeleton
public import proofs.«01_k».proof.Proof.Gen.KernelDeIdeal.Launch
public import proofs.«01_k».proof.Proof.Gen.KernelDeIdeal.Points
public import proofs.«01_k».proof.Proof.Gen.KernelDeIdeal.Frame
public import proofs.«01_k».proof.Proof.Gen.KernelDeIdeal.Value
public import proofs.«01_k».proof.Proof.Gen.ReferenceDeIdeal
public import proofs.«01_k».proof.Proof.Gen.ReferenceDeIdeal.Skeleton
public import proofs.«01_k».proof.Proof.Gen.ReferenceDeIdeal.Launch
public import proofs.«01_k».proof.Proof.Gen.ReferenceDeIdeal.Points
public import proofs.«01_k».proof.Proof.Gen.ReferenceDeIdeal.Frame
public import proofs.«01_k».proof.Proof.Gen.ReferenceDeIdeal.Value
public import proofs.«01_k».proof.Proof.Gen.KernelPrep
public import proofs.«01_k».proof.Proof.Gen.KernelPrep.Skeleton
public import proofs.«01_k».proof.Proof.Gen.KernelPrep.Launch
public import proofs.«01_k».proof.Proof.Gen.KernelPrep.Points
public import proofs.«01_k».proof.Proof.Gen.KernelPrep.Frame
public import proofs.«01_k».proof.Proof.Gen.KernelPrepIdeal
public import proofs.«01_k».proof.Proof.Gen.KernelPrepIdeal.Skeleton
public import proofs.«01_k».proof.Proof.Gen.KernelPrepIdeal.Launch
public import proofs.«01_k».proof.Proof.Gen.KernelPrepIdeal.Points
public import proofs.«01_k».proof.Proof.Gen.KernelPrepIdeal.Frame
public import proofs.«01_k».proof.Proof.Gen.KernelPrepIdeal.Value
public import proofs.«01_k».proof.Proof.Gen.ReferencePrepIdeal
public import proofs.«01_k».proof.Proof.Gen.ReferencePrepIdeal.Skeleton
public import proofs.«01_k».proof.Proof.Gen.ReferencePrepIdeal.Launch
public import proofs.«01_k».proof.Proof.Gen.ReferencePrepIdeal.Points
public import proofs.«01_k».proof.Proof.Gen.ReferencePrepIdeal.Frame
public import proofs.«01_k».proof.Proof.Gen.ReferencePrepIdeal.Value
public import proofs.«01_k».proof.Proof.KernelValue
public import proofs.«01_k».proof.Proof.RefValue
public import proofs.«01_k».proof.Proof.DeKernelValue
public import proofs.«01_k».proof.Proof.DeRefArray
public import proofs.«01_k».proof.Proof.PrepValue
public import Idealize.ShloMosaic.Adequacy
public import Idealize.ShloMosaic.Init

@[expose] public section

noncomputable section

namespace Cert.Proof

open Idealize.ShloMosaic Idealize.SL.Sem Cert.Kernel

/-- Over the extended reals the kernel computes the reference's result: both are, at `(R, Q)`, the sum over the vocabulary
    rows of the products of the dequantised operands. -/
theorem algebraic_dh : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G4 m c, Cert.KernelIdeal.Value.run (F := Ideal) m g, ?_⟩
  refine (θ_run (Cert.ReferenceIdeal.defs (F := Ideal)) _ _).mono (fun r h c => ?_)
    (Cert.ReferenceIdeal.Value.run (F := Ideal) m' g')
  obtain ⟨hv, hr⟩ := h c
  refine ⟨hv.trans ?_, hr⟩
  rw [(hargs c).1, (hargs c).2.1, (hargs c).2.2.1, (hargs c).2.2.2]
  refine funext fun (j : S8192x1536.Idx) => ?_
  have e : j = ix2 (j 0) (j 1) := funext fun a => by
    match a with
    | ⟨0, _⟩ => rfl
    | ⟨1, _⟩ => rfl
  rw [e]
  refine (Cert.Proof.DhRef.pay_apply _ _ _ _ (j 0) (j 1)).trans ?_
  refine Eq.trans ?_ (Cert.Proof.Dh.G4_apply m c (j 0) (j 1)).symm
  exact Finset.sum_congr rfl fun K _ => (Cert.Proof.Dh.prod_eq m c (j 0) (j 1) K).symm

set_option maxRecDepth 100000 in
/-- Over the extended reals the embedding-gradient kernel computes the reference's codes and scales: both quantise, row by
    row, the same new weights. -/
theorem algebraic_de : Cert.algebraic_KernelDeIdeal_ReferenceDeIdeal (hKernelDeIdeal := Cert.KernelDeIdeal.Gen.facts)
    (hReferenceDeIdeal := Cert.ReferenceDeIdeal.Gen.facts) := by
  intro m g m' g' _ hargs
  refine ⟨fun c => (Cert.KernelDeIdeal.Gen.dats m 0 c).arrAt 7 Cert.KernelDeIdeal.cfg0.N,
    fun c => (Cert.KernelDeIdeal.Gen.dats m 0 c).arrAt 8 Cert.KernelDeIdeal.cfg0.N,
    Cert.KernelDeIdeal.Value.run_blocks (F := Ideal) m g, ?_⟩
  refine (θ_run (Cert.ReferenceDeIdeal.defs (F := Ideal)) _ _).mono (fun r h c => ?_)
    (Cert.ReferenceDeIdeal.Value.run_blocks (F := Ideal) m' g')
  obtain ⟨h7, h8, hr⟩ := h c
  obtain ⟨e0, e1, e2, e3, e4, e5, e6⟩ := hargs c
  have hw : ∀ (R : Fin 32768) (q : Fin 1536), Cert.Proof.DeRef.wAt m' c R q = Cert.Proof.De.wAt m c R q := fun R q => by
    unfold Cert.Proof.DeRef.wAt Cert.Proof.De.wAt
    rw [e0, e1, e2, e3, e4, e5, e6]
  refine ⟨h7.trans ?_, h8.trans ?_, hr⟩
  · refine funext fun (j : Cert.KernelDeIdeal.S32768x1536.Idx) => ?_
    have e : j = ix2 (j 0) (j 1) := funext fun a => by
      match a with
      | ⟨0, _⟩ => rfl
      | ⟨1, _⟩ => rfl
    rw [e]
    refine (Cert.Proof.DeRef.codes_apply m' c (j 0) (j 1)).trans ?_
    refine Eq.trans ?_ (Cert.Proof.De.codes_apply m c (j 0) (j 1)).symm
    exact congrArg₂ (fun a f => Cert.Proof.De.codeOf a (Cert.Proof.De.invR (Cert.Proof.De.xOf f))) (hw _ _) (funext fun k => hw _ k)
  · refine funext fun (j : Cert.KernelDeIdeal.S128x1x256.Idx) => ?_
    have e : j = ix3 (j 0) 0 (j 2) := funext fun a => by
      match a with
      | ⟨0, _⟩ => rfl
      | ⟨1, _⟩ => exact Subsingleton.elim (α := Fin 1) _ _
      | ⟨2, _⟩ => rfl
    rw [e]
    refine (Cert.Proof.DeRef.scales_apply m' c (j 0) (j 2)).trans ?_
    refine Eq.trans ?_ (Cert.Proof.De.scales_apply m c (j 0) (j 2)).symm
    exact congrArg (fun f => Cert.Proof.De.scaleR (Cert.Proof.De.xOf f)) (funext fun k => hw _ k)

/-- Over the extended reals the transposing kernel computes the reference's array: both are, at `(Q, R)`, the code of token
    `R`, column `Q`, times the token's scale. -/
theorem algebraic_prep : Cert.algebraic_KernelPrepIdeal_ReferencePrepIdeal (hKernelPrepIdeal := Cert.KernelPrepIdeal.Gen.facts)
    (hReferencePrepIdeal := Cert.ReferencePrepIdeal.Gen.facts) := by
  intro m g m' g' _ hargs
  refine ⟨fun c => (Cert.KernelPrepIdeal.Gen.dats m 0 c).arrAt 2 Cert.KernelPrepIdeal.cfg0.N,
    Cert.KernelPrepIdeal.Value.run_blocks (F := Ideal) m g, ?_⟩
  refine (θ_run (Cert.ReferencePrepIdeal.defs (F := Ideal)) _ _).mono (fun r h c => ?_)
    (Cert.ReferencePrepIdeal.Value.run (F := Ideal) m' g')
  obtain ⟨hv, hr⟩ := h c
  refine ⟨hv.trans ?_, hr⟩
  rw [(hargs c).1, (hargs c).2]
  refine funext fun (j : Cert.KernelPrepIdeal.S1536x8192.Idx) => ?_
  have e : j = ix2 (j 0) (j 1) := funext fun a => by
    match a with
    | ⟨0, _⟩ => rfl
    | ⟨1, _⟩ => rfl
  rw [e]
  refine (Cert.Proof.PrepRef.pay_apply _ _ (j 0) (j 1)).trans ?_
  exact (Cert.Proof.Prep.arr_apply m c (j 0) (j 1)).symm

theorem claim : Cert.Claim := ⟨Cert.Kernel.Gen.facts, Cert.KernelIdeal.Gen.facts, Cert.ReferenceIdeal.Gen.facts,
  Cert.KernelDe.Gen.facts, Cert.KernelDeIdeal.Gen.facts, Cert.ReferenceDeIdeal.Gen.facts,
  Cert.KernelPrep.Gen.facts, Cert.KernelPrepIdeal.Gen.facts, Cert.ReferencePrepIdeal.Gen.facts,
  fun m g _ => Cert.Kernel.Gen.frame m g, fun m g _ => Cert.KernelIdeal.Gen.frame m g,
  fun m g _ => Cert.ReferenceIdeal.Gen.frame m g, fun m g _ => Cert.KernelDe.Gen.frame m g,
  fun m g _ => Cert.KernelDeIdeal.Gen.frame m g, fun m g _ => Cert.ReferenceDeIdeal.Gen.frame m g,
  fun m g _ => Cert.KernelPrep.Gen.frame m g, fun m g _ => Cert.KernelPrepIdeal.Gen.frame m g,
  fun m g _ => Cert.ReferencePrepIdeal.Gen.frame m g,
  trivial, algebraic_dh, trivial, algebraic_de, trivial, algebraic_prep⟩

end Cert.Proof

end
